-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x512x3 : Shape := ⟨4, ![16, 512, 512, 3]⟩
abbrev S16x64x64x85 : Shape := ⟨4, ![16, 64, 64, 85]⟩
abbrev S16x32x32x85 : Shape := ⟨4, ![16, 32, 32, 85]⟩
abbrev S16x16x16x85 : Shape := ⟨4, ![16, 16, 16, 85]⟩
abbrev S16x4096x85 : Shape := ⟨3, ![16, 4096, 85]⟩
abbrev S16x1024x85 : Shape := ⟨3, ![16, 1024, 85]⟩
abbrev S16x256x85 : Shape := ⟨3, ![16, 256, 85]⟩
abbrev S16x5376x85 : Shape := ⟨3, ![16, 5376, 85]⟩
abbrev S16x5376x80 : Shape := ⟨3, ![16, 5376, 80]⟩
abbrev S16x5376x4 : Shape := ⟨3, ![16, 5376, 4]⟩
abbrev S1x5376x85 : Shape := ⟨3, ![1, 5376, 85]⟩
abbrev S1x5376x80 : Shape := ⟨3, ![1, 5376, 80]⟩
abbrev S1x5376x4 : Shape := ⟨3, ![1, 5376, 4]⟩
abbrev S5376x85 : Shape := ⟨2, ![5376, 85]⟩
abbrev S5376x1 : Shape := ⟨2, ![5376, 1]⟩
abbrev S5376x4 : Shape := ⟨2, ![5376, 4]⟩
abbrev S5376x80 : Shape := ⟨2, ![5376, 80]⟩
abbrev S16x430080 : Shape := ⟨2, ![16, 430080]⟩
abbrev S16x256 : Shape := ⟨2, ![16, 256]⟩
abbrev S_ : Shape := ⟨0, ![]⟩
abbrev S16x256x1 : Shape := ⟨3, ![16, 256, 1]⟩
abbrev S1 : Shape := ⟨1, ![1]⟩
abbrev S1x1x1 : Shape := ⟨3, ![1, 1, 1]⟩
abbrev S16x256x4 : Shape := ⟨3, ![16, 256, 4]⟩
abbrev S16x1x256 : Shape := ⟨3, ![16, 1, 256]⟩
abbrev S16x256x6 : Shape := ⟨3, ![16, 256, 6]⟩
abbrev S1x256x4 : Shape := ⟨3, ![1, 256, 4]⟩
abbrev S1x1x256 : Shape := ⟨3, ![1, 1, 256]⟩
abbrev S1x256x6 : Shape := ⟨3, ![1, 256, 6]⟩
abbrev S256x256 : Shape := ⟨2, ![256, 256]⟩
abbrev S256x4 : Shape := ⟨2, ![256, 4]⟩
abbrev S1x256 : Shape := ⟨2, ![1, 256]⟩
abbrev S256x1 : Shape := ⟨2, ![256, 1]⟩
abbrev S256x6 : Shape := ⟨2, ![256, 6]⟩
abbrev S16x100 : Shape := ⟨2, ![16, 100]⟩
abbrev S16x100x1 : Shape := ⟨3, ![16, 100, 1]⟩
abbrev S16x100x6 : Shape := ⟨3, ![16, 100, 6]⟩

abbrev nBuf : Space → Nat
  | .hbm => 107
  | .vmem => 17
  | .smem => 0
  | _ => 0

abbrev bufTy : (tb : Table) → Fin (tcTables nBuf tb) → BufTy
  | .hbm, ⟨0, _⟩ => ⟨S16x512x512x3, .f32⟩
  | .hbm, ⟨1, _⟩ => ⟨S16x64x64x85, .f32⟩
  | .hbm, ⟨2, _⟩ => ⟨S16x32x32x85, .f32⟩
  | .hbm, ⟨3, _⟩ => ⟨S16x16x16x85, .f32⟩
  | .hbm, ⟨4, _⟩ => ⟨S16x4096x85, .f32⟩
  | .hbm, ⟨5, _⟩ => ⟨S16x1024x85, .f32⟩
  | .hbm, ⟨6, _⟩ => ⟨S16x256x85, .f32⟩
  | .hbm, ⟨7, _⟩ => ⟨S16x5376x85, .f32⟩
  | .hbm, ⟨8, _⟩ => ⟨S16x5376x80, .f32⟩
  | .hbm, ⟨9, _⟩ => ⟨S16x5376x4, .f32⟩
  | .hbm, ⟨10, _⟩ => ⟨S16x430080, .f32⟩
  | .hbm, ⟨11, _⟩ => ⟨S16x256, .f32⟩
  | .hbm, ⟨12, _⟩ => ⟨S16x256, .i32⟩
  | .hbm, ⟨13, _⟩ => ⟨S_, .i32⟩
  | .hbm, ⟨14, _⟩ => ⟨S_, .i32⟩
  | .hbm, ⟨15, _⟩ => ⟨S16x256, .i32⟩
  | .hbm, ⟨16, _⟩ => ⟨S16x256, .i32⟩
  | .hbm, ⟨17, _⟩ => ⟨S16x256, .i32⟩
  | .hbm, ⟨18, _⟩ => ⟨S_, .i32⟩
  | .hbm, ⟨19, _⟩ => ⟨S16x256, .i32⟩
  | .hbm, ⟨20, _⟩ => ⟨S16x256, .i1⟩
  | .hbm, ⟨21, _⟩ => ⟨S16x256, .i32⟩
  | .hbm, ⟨22, _⟩ => ⟨S16x256, .i32⟩
  | .hbm, ⟨23, _⟩ => ⟨S_, .i32⟩
  | .hbm, ⟨24, _⟩ => ⟨S16x256, .i32⟩
  | .hbm, ⟨25, _⟩ => ⟨S16x256, .i1⟩
  | .hbm, ⟨26, _⟩ => ⟨S16x256, .i1⟩
  | .hbm, ⟨27, _⟩ => ⟨S_, .i32⟩
  | .hbm, ⟨28, _⟩ => ⟨S16x256, .i32⟩
  | .hbm, ⟨29, _⟩ => ⟨S16x256, .i32⟩
  | .hbm, ⟨30, _⟩ => ⟨S16x256, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S16x256, .i32⟩
  | .hbm, ⟨38, _⟩ => ⟨S16x256, .i32⟩
  | .hbm, ⟨39, _⟩ => ⟨S_, .i32⟩
  | .hbm, ⟨40, _⟩ => ⟨S16x256, .i32⟩
  | .hbm, ⟨41, _⟩ => ⟨S16x256, .i1⟩
  | .hbm, ⟨42, _⟩ => ⟨S_, .i32⟩
  | .hbm, ⟨43, _⟩ => ⟨S16x256, .i32⟩
  | .hbm, ⟨44, _⟩ => ⟨S16x256, .i1⟩
  | .hbm, ⟨45, _⟩ => ⟨S_, .i32⟩
  | .hbm, ⟨46, _⟩ => ⟨S_, .i1⟩
  | .hbm, ⟨47, _⟩ => ⟨S16x256, .i1⟩
  | .hbm, ⟨48, _⟩ => ⟨S16x256, .i1⟩
  | .hbm, ⟨49, _⟩ => ⟨S16x256, .i1⟩
  | .hbm, ⟨50, _⟩ => ⟨S16x256, .i32⟩
  | .hbm, ⟨51, _⟩ => ⟨S16x256, .i32⟩
  | .hbm, ⟨52, _⟩ => ⟨S16x256, .i32⟩
  | .hbm, ⟨53, _⟩ => ⟨S16x256, .f32⟩
  | .hbm, ⟨54, _⟩ => ⟨S16x256x1, .i32⟩
  | .hbm, ⟨55, _⟩ => ⟨S_, .i32⟩
  | .hbm, ⟨56, _⟩ => ⟨S16x256x1, .i32⟩
  | .hbm, ⟨57, _⟩ => ⟨S16x256x1, .i1⟩
  | .hbm, ⟨58, _⟩ => ⟨S_, .i32⟩
  | .hbm, ⟨59, _⟩ => ⟨S16x256x1, .i32⟩
  | .hbm, ⟨60, _⟩ => ⟨S16x256x1, .i32⟩
  | .hbm, ⟨61, _⟩ => ⟨S16x256x1, .i32⟩
  | .hbm, ⟨62, _⟩ => ⟨S1, .i32⟩
  | .hbm, ⟨63, _⟩ => ⟨S_, .i32⟩
  | .hbm, ⟨64, _⟩ => ⟨S16x256x1, .i32⟩
  | .hbm, ⟨65, _⟩ => ⟨S16x256x1, .i1⟩
  | .hbm, ⟨66, _⟩ => ⟨S1x1x1, .i32⟩
  | .hbm, ⟨67, _⟩ => ⟨S16x256x1, .i32⟩
  | .hbm, ⟨68, _⟩ => ⟨S16x256x1, .i1⟩
  | .hbm, ⟨69, _⟩ => ⟨S16x256x1, .i1⟩
  | .hbm, ⟨70, _⟩ => ⟨S_, .i1⟩
  | .hbm, ⟨71, _⟩ => ⟨S16x256, .i1⟩
  | .hbm, ⟨72, _⟩ => ⟨S16x256x4, .f32⟩
  | .hbm, ⟨73, _⟩ => ⟨S16x256x4, .i1⟩
  | .hbm, ⟨74, _⟩ => ⟨S_, .f32⟩
  | .hbm, ⟨75, _⟩ => ⟨S16x256x4, .f32⟩
  | .hbm, ⟨76, _⟩ => ⟨S16x256x4, .f32⟩
  | .hbm, ⟨77, _⟩ => ⟨S16x1x256, .f32⟩
  | .hbm, ⟨78, _⟩ => ⟨S16x1x256, .f32⟩
  | .hbm, ⟨79, _⟩ => ⟨S16x256x6, .f32⟩
  | .hbm, ⟨80, _⟩ => ⟨S16x1x256, .f32⟩
  | .hbm, ⟨81, _⟩ => ⟨S16x256, .f32⟩
  | .hbm, ⟨82, _⟩ => ⟨S16x100, .f32⟩
  | .hbm, ⟨83, _⟩ => ⟨S16x100, .i32⟩
  | .hbm, ⟨84, _⟩ => ⟨S16x100x1, .i32⟩
  | .hbm, ⟨85, _⟩ => ⟨S_, .i32⟩
  | .hbm, ⟨86, _⟩ => ⟨S16x100x1, .i32⟩
  | .hbm, ⟨87, _⟩ => ⟨S16x100x1, .i1⟩
  | .hbm, ⟨88, _⟩ => ⟨S_, .i32⟩
  | .hbm, ⟨89, _⟩ => ⟨S16x100x1, .i32⟩
  | .hbm, ⟨90, _⟩ => ⟨S16x100x1, .i32⟩
  | .hbm, ⟨91, _⟩ => ⟨S16x100x1, .i32⟩
  | .hbm, ⟨92, _⟩ => ⟨S1, .i32⟩
  | .hbm, ⟨93, _⟩ => ⟨S_, .i32⟩
  | .hbm, ⟨94, _⟩ => ⟨S16x100x1, .i32⟩
  | .hbm, ⟨95, _⟩ => ⟨S16x100x1, .i1⟩
  | .hbm, ⟨96, _⟩ => ⟨S1x1x1, .i32⟩
  | .hbm, ⟨97, _⟩ => ⟨S16x100x1, .i32⟩
  | .hbm, ⟨98, _⟩ => ⟨S16x100x1, .i1⟩
  | .hbm, ⟨99, _⟩ => ⟨S16x100x1, .i1⟩
  | .hbm, ⟨100, _⟩ => ⟨S_, .i1⟩
  | .hbm, ⟨101, _⟩ => ⟨S16x100, .i1⟩
  | .hbm, ⟨102, _⟩ => ⟨S16x100x6, .f32⟩
  | .hbm, ⟨103, _⟩ => ⟨S16x100x6, .i1⟩
  | .hbm, ⟨104, _⟩ => ⟨S_, .f32⟩
  | .hbm, ⟨105, _⟩ => ⟨S16x100x6, .f32⟩
  | .hbm, ⟨106, _⟩ => ⟨S16x100x6, .f32⟩
  | .local _ .vmem, ⟨0, _⟩ => ⟨S1x5376x85, .f32⟩
  | .local _ .vmem, ⟨1, _⟩ => ⟨S1x5376x85, .f32⟩
  | .local _ .vmem, ⟨2, _⟩ => ⟨S1x5376x80, .f32⟩
  | .local _ .vmem, ⟨3, _⟩ => ⟨S1x5376x80, .f32⟩
  | .local _ .vmem, ⟨4, _⟩ => ⟨S1x5376x4, .f32⟩
  | .local _ .vmem, ⟨5, _⟩ => ⟨S1x5376x4, .f32⟩
  | .local _ .vmem, ⟨6, _⟩ => ⟨S1x256x4, .f32⟩
  | .local _ .vmem, ⟨7, _⟩ => ⟨S1x256x4, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x256x6, .f32⟩
  | .local _ .vmem, ⟨13, _⟩ => ⟨S1x256x6, .f32⟩
  | .local _ .vmem, ⟨14, _⟩ => ⟨S1x1x256, .f32⟩
  | .local _ .vmem, ⟨15, _⟩ => ⟨S1x1x256, .f32⟩
  | .local _ .vmem, ⟨16, _⟩ => ⟨S256x256, .f32⟩
  | _, _ => ⟨S16x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_c_2 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_c_3 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13_0 : Ref sig .tc := ⟨.hbm, 79, rfl⟩
abbrev main_v13_1 : Ref sig .tc := ⟨.hbm, 80, rfl⟩
abbrev main_v14 : Ref sig .tc := ⟨.hbm, 81, rfl⟩
abbrev main_values_1 : Ref sig .tc := ⟨.hbm, 82, rfl⟩
abbrev main_indices_2 : Ref sig .tc := ⟨.hbm, 83, rfl⟩
abbrev main_v15 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_c_2 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_c_3 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_cst : Ref sig .tc := ⟨.hbm, 104, rfl⟩
abbrev main_call3_v14 : Ref sig .tc := ⟨.hbm, 105, rfl⟩
abbrev main_v16 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5376x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5376x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5376x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

@[reducible] def k1_t1_loop : Scf.Loop 32 :=
  let c0_i32 : BitVec 32 := 0#32
  let c256_i32 : BitVec 32 := 256#32
  let v67 : BitVec 32 := Scalar.addi c0_i32 c256_i32
  let c1_i32 : BitVec 32 := 1#32
  ⟨c0_i32, v67, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let v82 : Index := Scalar.indexCast arg7
  let c0_25 : Index := 0#32
  ![v82.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x6 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16x512x512x3 : Shape := ⟨4, ![16, 512, 512, 3]⟩
abbrev S16x64x64x85 : Shape := ⟨4, ![16, 64, 64, 85]⟩
abbrev S16x32x32x85 : Shape := ⟨4, ![16, 32, 32, 85]⟩
abbrev S16x16x16x85 : Shape := ⟨4, ![16, 16, 16, 85]⟩
abbrev S2 : Shape := ⟨1, ![2]⟩
abbrev S16x4096x85 : Shape := ⟨3, ![16, 4096, 85]⟩
abbrev S16x1024x85 : Shape := ⟨3, ![16, 1024, 85]⟩
abbrev S16x256x85 : Shape := ⟨3, ![16, 256, 85]⟩
abbrev S16x5376x85 : Shape := ⟨3, ![16, 5376, 85]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S1x4096x2 : Shape := ⟨3, ![1, 4096, 2]⟩
abbrev S_ : Shape := ⟨0, ![]⟩
abbrev S1x4096x1 : Shape := ⟨3, ![1, 4096, 1]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S1x1024x2 : Shape := ⟨3, ![1, 1024, 2]⟩
abbrev S1x1024x1 : Shape := ⟨3, ![1, 1024, 1]⟩
abbrev S16 : Shape := ⟨1, ![16]⟩
abbrev S16x16 : Shape := ⟨2, ![16, 16]⟩
abbrev S16x16x1 : Shape := ⟨3, ![16, 16, 1]⟩
abbrev S16x16x2 : Shape := ⟨3, ![16, 16, 2]⟩
abbrev S1x256x2 : Shape := ⟨3, ![1, 256, 2]⟩
abbrev S1x256x1 : Shape := ⟨3, ![1, 256, 1]⟩
abbrev S1x5376x2 : Shape := ⟨3, ![1, 5376, 2]⟩
abbrev S1x5376x1 : Shape := ⟨3, ![1, 5376, 1]⟩
abbrev S16x5376x2 : Shape := ⟨3, ![16, 5376, 2]⟩
abbrev S1x1x2 : Shape := ⟨3, ![1, 1, 2]⟩
abbrev S16x5376x1x2 : Shape := ⟨4, ![16, 5376, 1, 2]⟩
abbrev S16x5376x80x2 : Shape := ⟨4, ![16, 5376, 80, 2]⟩
abbrev S16x5376x1 : Shape := ⟨3, ![16, 5376, 1]⟩
abbrev S16x5376x80 : Shape := ⟨3, ![16, 5376, 80]⟩
abbrev S80 : Shape := ⟨1, ![80]⟩
abbrev S80x1 : Shape := ⟨2, ![80, 1]⟩
abbrev S16x5376x80x1 : Shape := ⟨4, ![16, 5376, 80, 1]⟩
abbrev S16x5376x80x6 : Shape := ⟨4, ![16, 5376, 80, 6]⟩
abbrev S16x430080x6 : Shape := ⟨3, ![16, 430080, 6]⟩
abbrev S16x430080x1 : Shape := ⟨3, ![16, 430080, 1]⟩
abbrev S16x430080 : Shape := ⟨2, ![16, 430080]⟩
abbrev S16x430080x4 : Shape := ⟨3, ![16, 430080, 4]⟩
abbrev S16x430080x2 : Shape := ⟨3, ![16, 430080, 2]⟩
abbrev S16x256 : Shape := ⟨2, ![16, 256]⟩
abbrev S16x256x1 : Shape := ⟨3, ![16, 256, 1]⟩
abbrev S16x256x6 : Shape := ⟨3, ![16, 256, 6]⟩
abbrev S16x256x4 : Shape := ⟨3, ![16, 256, 4]⟩
abbrev S16x1x256 : Shape := ⟨3, ![16, 1, 256]⟩
abbrev S16x256x256 : Shape := ⟨3, ![16, 256, 256]⟩
abbrev S256x256 : Shape := ⟨2, ![256, 256]⟩
abbrev S1x256x256 : Shape := ⟨3, ![1, 256, 256]⟩
abbrev S16x1 : Shape := ⟨2, ![16, 1]⟩
abbrev S16x100 : Shape := ⟨2, ![16, 100]⟩
abbrev S16x100x1 : Shape := ⟨3, ![16, 100, 1]⟩
abbrev S16x100x6 : Shape := ⟨3, ![16, 100, 6]⟩

abbrev nBuf : Space → Nat
  | .hbm => 295
  | .vmem => 0
  | .smem => 0
  | _ => 0

abbrev hbmTy0_0 (i : Nat) : BufTy := match i % 128 with
  | 0 => ⟨S16x512x512x3, .f32⟩
  | 1 => ⟨S16x64x64x85, .f32⟩
  | 2 => ⟨S16x32x32x85, .f32⟩
  | 3 => ⟨S16x16x16x85, .f32⟩
  | 4 => ⟨S2, .f32⟩
  | 5 => ⟨S16x4096x85, .f32⟩
  | 6 => ⟨S16x1024x85, .f32⟩
  | 7 => ⟨S16x256x85, .f32⟩
  | 8 => ⟨S16x5376x85, .f32⟩
  | 9 => ⟨S64, .i32⟩
  | 10 => ⟨S64, .i32⟩
  | 11 => ⟨S64x64, .i32⟩
  | 12 => ⟨S64x64, .i32⟩
  | 13 => ⟨S64x64x1, .i32⟩
  | 14 => ⟨S64x64x1, .i32⟩
  | 15 => ⟨S64x64x2, .i32⟩
  | 16 => ⟨S1x4096x2, .i32⟩
  | 17 => ⟨S1x4096x2, .f32⟩
  | 18 => ⟨S_, .f32⟩
  | 19 => ⟨S1x4096x1, .f32⟩
  | 20 => ⟨S_, .f32⟩
  | 21 => ⟨S1x4096x1, .f32⟩
  | 22 => ⟨S1x4096x1, .f32⟩
  | 23 => ⟨S_, .f32⟩
  | 24 => ⟨S1x4096x1, .f32⟩
  | 25 => ⟨S1x4096x1, .f32⟩
  | 26 => ⟨S32, .i32⟩
  | 27 => ⟨S32, .i32⟩
  | 28 => ⟨S32x32, .i32⟩
  | 29 => ⟨S32x32, .i32⟩
  | 30 => ⟨S32x32x1, .i32⟩
  | 31 => ⟨S32x32x1, .i32⟩
  | 32 => ⟨S32x32x2, .i32⟩
  | 33 => ⟨S1x1024x2, .i32⟩
  | 34 => ⟨S1x1024x2, .f32⟩
  | 35 => ⟨S_, .f32⟩
  | 36 => ⟨S1x1024x1, .f32⟩
  | 37 => ⟨S_, .f32⟩
  | 38 => ⟨S1x1024x1, .f32⟩
  | 39 => ⟨S1x1024x1, .f32⟩
  | 40 => ⟨S_, .f32⟩
  | 41 => ⟨S1x1024x1, .f32⟩
  | 42 => ⟨S1x1024x1, .f32⟩
  | 43 => ⟨S16, .i32⟩
  | 44 => ⟨S16, .i32⟩
  | 45 => ⟨S16x16, .i32⟩
  | 46 => ⟨S16x16, .i32⟩
  | 47 => ⟨S16x16x1, .i32⟩
  | 48 => ⟨S16x16x1, .i32⟩
  | 49 => ⟨S16x16x2, .i32⟩
  | 50 => ⟨S1x256x2, .i32⟩
  | 51 => ⟨S1x256x2, .f32⟩
  | 52 => ⟨S_, .f32⟩
  | 53 => ⟨S1x256x1, .f32⟩
  | 54 => ⟨S_, .f32⟩
  | 55 => ⟨S1x256x1, .f32⟩
  | 56 => ⟨S1x256x1, .f32⟩
  | 57 => ⟨S_, .f32⟩
  | 58 => ⟨S1x256x1, .f32⟩
  | 59 => ⟨S1x256x1, .f32⟩
  | 60 => ⟨S1x5376x2, .f32⟩
  | 61 => ⟨S1x5376x1, .f32⟩
  | 62 => ⟨S16x5376x2, .f32⟩
  | 63 => ⟨S16x5376x2, .f32⟩
  | 64 => ⟨S16x5376x2, .f32⟩
  | 65 => ⟨S16x5376x2, .f32⟩
  | 66 => ⟨S16x5376x2, .f32⟩
  | 67 => ⟨S1x1x2, .f32⟩
  | 68 => ⟨S16x5376x2, .f32⟩
  | 69 => ⟨S16x5376x2, .f32⟩
  | 70 => ⟨S16x5376x1x2, .f32⟩
  | 71 => ⟨S16x5376x80x2, .f32⟩
  | 72 => ⟨S16x5376x2, .f32⟩
  | 73 => ⟨S16x5376x2, .f32⟩
  | 74 => ⟨S16x5376x2, .f32⟩
  | 75 => ⟨S16x5376x2, .f32⟩
  | 76 => ⟨S1x1x2, .f32⟩
  | 77 => ⟨S16x5376x2, .f32⟩
  | 78 => ⟨S16x5376x2, .f32⟩
  | 79 => ⟨S16x5376x1x2, .f32⟩
  | 80 => ⟨S16x5376x80x2, .f32⟩
  | 81 => ⟨S16x5376x1, .f32⟩
  | 82 => ⟨S16x5376x1, .f32⟩
  | 83 => ⟨S16x5376x1, .f32⟩
  | 84 => ⟨S_, .f32⟩
  | 85 => ⟨S16x5376x1, .f32⟩
  | 86 => ⟨S16x5376x1, .f32⟩
  | 87 => ⟨S_, .f32⟩
  | 88 => ⟨S16x5376x1, .f32⟩
  | 89 => ⟨S16x5376x1, .f32⟩
  | 90 => ⟨S16x5376x80, .f32⟩
  | 91 => ⟨S16x5376x80, .f32⟩
  | 92 => ⟨S16x5376x80, .f32⟩
  | 93 => ⟨S_, .f32⟩
  | 94 => ⟨S16x5376x80, .f32⟩
  | 95 => ⟨S16x5376x80, .f32⟩
  | 96 => ⟨S_, .f32⟩
  | 97 => ⟨S16x5376x80, .f32⟩
  | 98 => ⟨S16x5376x80, .f32⟩
  | 99 => ⟨S80, .f32⟩
  | 100 => ⟨S80x1, .f32⟩
  | 101 => ⟨S16x5376x80x1, .f32⟩
  | 102 => ⟨S16x5376x80, .f32⟩
  | 103 => ⟨S16x5376x80, .f32⟩
  | 104 => ⟨S16x5376x80x1, .f32⟩
  | 105 => ⟨S16x5376x80x6, .f32⟩
  | 106 => ⟨S16x430080x6, .f32⟩
  | 107 => ⟨S16x430080x1, .f32⟩
  | 108 => ⟨S16x430080, .f32⟩
  | 109 => ⟨S_, .f32⟩
  | 110 => ⟨S16x430080, .f32⟩
  | 111 => ⟨S16x430080, .f32⟩
  | 112 => ⟨S16x430080x1, .f32⟩
  | 113 => ⟨S16x430080, .f32⟩
  | 114 => ⟨S_, .f32⟩
  | 115 => ⟨S16x430080, .f32⟩
  | 116 => ⟨S16x430080, .f32⟩
  | 117 => ⟨S16x430080x1, .f32⟩
  | 118 => ⟨S16x430080, .f32⟩
  | 119 => ⟨S_, .f32⟩
  | 120 => ⟨S16x430080, .f32⟩
  | 121 => ⟨S16x430080, .f32⟩
  | 122 => ⟨S16x430080x1, .f32⟩
  | 123 => ⟨S16x430080, .f32⟩
  | 124 => ⟨S_, .f32⟩
  | 125 => ⟨S16x430080, .f32⟩
  | 126 => ⟨S16x430080, .f32⟩
  | 127 => ⟨S16x430080, .f32⟩
  | _ => ⟨S16x512x512x3, .f32⟩

abbrev hbmTy0_1 (i : Nat) : BufTy := match i % 128 with
  | 0 => ⟨S16x430080, .f32⟩
  | 1 => ⟨S16x430080x1, .f32⟩
  | 2 => ⟨S16x430080x1, .f32⟩
  | 3 => ⟨S16x430080x1, .f32⟩
  | 4 => ⟨S16x430080x1, .f32⟩
  | 5 => ⟨S16x430080x4, .f32⟩
  | 6 => ⟨S16x430080x2, .f32⟩
  | 7 => ⟨S16x430080x6, .f32⟩
  | 8 => ⟨S16x430080x1, .f32⟩
  | 9 => ⟨S16x430080, .f32⟩
  | 10 => ⟨S16x256, .f32⟩
  | 11 => ⟨S16x256, .i32⟩
  | 12 => ⟨S_, .i32⟩
  | 13 => ⟨S16x256, .i32⟩
  | 14 => ⟨S16x256, .i1⟩
  | 15 => ⟨S_, .i32⟩
  | 16 => ⟨S16x256, .i32⟩
  | 17 => ⟨S16x256, .i32⟩
  | 18 => ⟨S16x256, .i32⟩
  | 19 => ⟨S16x256x1, .i32⟩
  | 20 => ⟨S16x256x6, .f32⟩
  | 21 => ⟨S16x256x4, .f32⟩
  | 22 => ⟨S16x256x1, .f32⟩
  | 23 => ⟨S16x256, .f32⟩
  | 24 => ⟨S16x256x1, .f32⟩
  | 25 => ⟨S16x256, .f32⟩
  | 26 => ⟨S16x256x1, .f32⟩
  | 27 => ⟨S16x256, .f32⟩
  | 28 => ⟨S16x256x1, .f32⟩
  | 29 => ⟨S16x256, .f32⟩
  | 30 => ⟨S16x256, .f32⟩
  | 31 => ⟨S_, .f32⟩
  | 32 => ⟨S16x256, .f32⟩
  | 33 => ⟨S16x256, .f32⟩
  | 34 => ⟨S16x256, .f32⟩
  | 35 => ⟨S_, .f32⟩
  | 36 => ⟨S16x256, .f32⟩
  | 37 => ⟨S16x256, .f32⟩
  | 38 => ⟨S16x256, .f32⟩
  | 39 => ⟨S16x256x1, .f32⟩
  | 40 => ⟨S16x1x256, .f32⟩
  | 41 => ⟨S16x256x256, .f32⟩
  | 42 => ⟨S16x256x256, .f32⟩
  | 43 => ⟨S16x256x256, .f32⟩
  | 44 => ⟨S16x256x1, .f32⟩
  | 45 => ⟨S16x1x256, .f32⟩
  | 46 => ⟨S16x256x256, .f32⟩
  | 47 => ⟨S16x256x256, .f32⟩
  | 48 => ⟨S16x256x256, .f32⟩
  | 49 => ⟨S16x256x1, .f32⟩
  | 50 => ⟨S16x1x256, .f32⟩
  | 51 => ⟨S16x256x256, .f32⟩
  | 52 => ⟨S16x256x256, .f32⟩
  | 53 => ⟨S16x256x256, .f32⟩
  | 54 => ⟨S16x256x1, .f32⟩
  | 55 => ⟨S16x1x256, .f32⟩
  | 56 => ⟨S16x256x256, .f32⟩
  | 57 => ⟨S16x256x256, .f32⟩
  | 58 => ⟨S16x256x256, .f32⟩
  | 59 => ⟨S16x256x256, .f32⟩
  | 60 => ⟨S_, .f32⟩
  | 61 => ⟨S16x256x256, .f32⟩
  | 62 => ⟨S16x256x256, .f32⟩
  | 63 => ⟨S16x256x256, .f32⟩
  | 64 => ⟨S_, .f32⟩
  | 65 => ⟨S16x256x256, .f32⟩
  | 66 => ⟨S16x256x256, .f32⟩
  | 67 => ⟨S16x256x256, .f32⟩
  | 68 => ⟨S16x256x1, .f32⟩
  | 69 => ⟨S16x1x256, .f32⟩
  | 70 => ⟨S16x256x256, .f32⟩
  | 71 => ⟨S16x256x256, .f32⟩
  | 72 => ⟨S16x256x256, .f32⟩
  | 73 => ⟨S16x256x256, .f32⟩
  | 74 => ⟨S_, .f32⟩
  | 75 => ⟨S16x256x256, .f32⟩
  | 76 => ⟨S16x256x256, .f32⟩
  | 77 => ⟨S16x256x256, .f32⟩
  | 78 => ⟨S16x256x1, .f32⟩
  | 79 => ⟨S16x256, .f32⟩
  | 80 => ⟨S16x256x1, .f32⟩
  | 81 => ⟨S16x1x256, .f32⟩
  | 82 => ⟨S16x256x256, .f32⟩
  | 83 => ⟨S16x256x256, .f32⟩
  | 84 => ⟨S16x256x256, .i1⟩
  | 85 => ⟨S_, .i1⟩
  | 86 => ⟨S256x256, .i1⟩
  | 87 => ⟨S256x256, .i32⟩
  | 88 => ⟨S_, .i32⟩
  | 89 => ⟨S256x256, .i32⟩
  | 90 => ⟨S256x256, .i32⟩
  | 91 => ⟨S256x256, .i32⟩
  | 92 => ⟨S256x256, .i1⟩
  | 93 => ⟨S_, .i1⟩
  | 94 => ⟨S256x256, .i1⟩
  | 95 => ⟨S256x256, .i1⟩
  | 96 => ⟨S1x256x256, .i1⟩
  | 97 => ⟨S16x256x256, .i1⟩
  | 98 => ⟨S16x256x256, .i1⟩
  | 99 => ⟨S_, .f32⟩
  | 100 => ⟨S16x256x256, .f32⟩
  | 101 => ⟨S16x256x256, .i1⟩
  | 102 => ⟨S16x256x256, .i1⟩
  | 103 => ⟨S_, .i1⟩
  | 104 => ⟨S16x256, .i1⟩
  | 105 => ⟨S_, .i32⟩
  | 106 => ⟨S_, .i32⟩
  | 107 => ⟨S16x256x256, .i1⟩
  | 108 => ⟨S_, .i32⟩
  | 109 => ⟨S_, .i32⟩
  | 110 => ⟨S16x256, .i1⟩
  | 111 => ⟨S_, .i32⟩
  | 112 => ⟨S_, .i1⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S16x1, .i1⟩
  | 123 => ⟨S_, .i32⟩
  | 124 => ⟨S_, .i1⟩
  | 125 => ⟨S_, .i32⟩
  | 126 => ⟨S_, .i32⟩
  | 127 => ⟨S_, .i32⟩
  | _ => ⟨S16x512x512x3, .f32⟩

abbrev hbmTy0_2 (i : Nat) : BufTy := match i % 128 with
  | 0 => ⟨S_, .i32⟩
  | 1 => ⟨S_, .i32⟩
  | 2 => ⟨S_, .i32⟩
  | 3 => ⟨S16x1x256, .i1⟩
  | 4 => ⟨S16x256, .i1⟩
  | 5 => ⟨S16x256, .i1⟩
  | 6 => ⟨S16x256, .i1⟩
  | 7 => ⟨S16x256, .i1⟩
  | 8 => ⟨S16x256, .i1⟩
  | 9 => ⟨S_, .i32⟩
  | 10 => ⟨S_, .i32⟩
  | 11 => ⟨S16x256x1, .f32⟩
  | 12 => ⟨S16x256, .f32⟩
  | 13 => ⟨S16x256, .f32⟩
  | 14 => ⟨S16x256, .f32⟩
  | 15 => ⟨S16x100, .f32⟩
  | 16 => ⟨S16x100, .i32⟩
  | 17 => ⟨S_, .i32⟩
  | 18 => ⟨S16x100, .i32⟩
  | 19 => ⟨S16x100, .i1⟩
  | 20 => ⟨S_, .i32⟩
  | 21 => ⟨S16x100, .i32⟩
  | 22 => ⟨S16x100, .i32⟩
  | 23 => ⟨S16x100, .i32⟩
  | 24 => ⟨S16x100x1, .i32⟩
  | 25 => ⟨S16x100x6, .f32⟩
  | 26 => ⟨S_, .i32⟩
  | 27 => ⟨S16x100, .i32⟩
  | 28 => ⟨S16x100, .i1⟩
  | 29 => ⟨S_, .i32⟩
  | 30 => ⟨S16x100, .i32⟩
  | 31 => ⟨S16x100, .i32⟩
  | 32 => ⟨S16x100, .i32⟩
  | 33 => ⟨S16x100x1, .i32⟩
  | 34 => ⟨S16x100, .i1⟩
  | 35 => ⟨S16x100, .f32⟩
  | 36 => ⟨S16x100x1, .f32⟩
  | 37 => ⟨S16x100x6, .f32⟩
  | 38 => ⟨S16x100x6, .f32⟩
  | _ => ⟨S16x512x512x3, .f32⟩

abbrev hbmTy (i : Nat) : BufTy := match i / 128 with
  | 0 => hbmTy0_0 i
  | 1 => hbmTy0_1 i
  | 2 => hbmTy0_2 i
  | _ => ⟨S16x512x512x3, .f32⟩

abbrev bufTy : (tb : Table) → Fin (tcTables nBuf tb) → BufTy
  | .hbm, ⟨i, _⟩ => hbmTy i
  | _, _ => ⟨S16x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_cst_10 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_v77 : Ref sig .tc := ⟨.hbm, 94, rfl⟩
abbrev main_v78 : Ref sig .tc := ⟨.hbm, 95, rfl⟩
abbrev main_cst_12 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_13 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_14 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_15 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_16 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_values : Ref sig .tc := ⟨.hbm, 138, rfl⟩
abbrev main_indices : Ref sig .tc := ⟨.hbm, 139, rfl⟩
abbrev main_c : Ref sig .tc := ⟨.hbm, 140, rfl⟩
abbrev main_v116 : Ref sig .tc := ⟨.hbm, 141, rfl⟩
abbrev main_v117 : Ref sig .tc := ⟨.hbm, 142, rfl⟩
abbrev main_c_17 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_18 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_19 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_cst_20 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_21 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_cst_22 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_c_23 : Ref sig .tc := ⟨.hbm, 213, rfl⟩
abbrev main_v182 : Ref sig .tc := ⟨.hbm, 214, rfl⟩
abbrev main_call0_v0 : Ref sig .tc := ⟨.hbm, 215, rfl⟩
abbrev main_call0_c : Ref sig .tc := ⟨.hbm, 216, rfl⟩
abbrev main_call0_v1 : Ref sig .tc := ⟨.hbm, 217, rfl⟩
abbrev main_call0_v2 : Ref sig .tc := ⟨.hbm, 218, rfl⟩
abbrev main_call0_v3 : Ref sig .tc := ⟨.hbm, 219, rfl⟩
abbrev main_call0_v4 : Ref sig .tc := ⟨.hbm, 220, rfl⟩
abbrev main_call0_c_0 : Ref sig .tc := ⟨.hbm, 221, rfl⟩
abbrev main_call0_v5 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_24 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_c_25 : Ref sig .tc := ⟨.hbm, 231, rfl⟩
abbrev main_v190 : Ref sig .tc := ⟨.hbm, 232, rfl⟩
abbrev main_c_26 : Ref sig .tc := ⟨.hbm, 233, rfl⟩
abbrev main_c_27 : Ref sig .tc := ⟨.hbm, 234, rfl⟩
abbrev main_v191_0 : Ref sig .tc := ⟨.hbm, 235, rfl⟩
abbrev main_v191_1 : Ref sig .tc := ⟨.hbm, 236, rfl⟩
abbrev main_v191_2 : Ref sig .tc := ⟨.hbm, 237, rfl⟩
abbrev main_v191_3 : Ref sig .tc := ⟨.hbm, 238, rfl⟩
abbrev main_while0c_c_37 : Ref sig .tc := ⟨.hbm, 239, rfl⟩
abbrev main_while0c_v214 : Ref sig .tc := ⟨.hbm, 240, rfl⟩
abbrev main_while0b_c_37 : Ref sig .tc := ⟨.hbm, 241, rfl⟩
abbrev main_while0b_v214 : Ref sig .tc := ⟨.hbm, 242, rfl⟩
abbrev main_while0b_c_38 : Ref sig .tc := ⟨.hbm, 243, rfl⟩
abbrev main_while0b_v215 : Ref sig .tc := ⟨.hbm, 244, rfl⟩
abbrev main_while0b_v216 : Ref sig .tc := ⟨.hbm, 245, rfl⟩
abbrev main_while0b_c_39 : Ref sig .tc := ⟨.hbm, 246, rfl⟩
abbrev main_while0b_v217 : Ref sig .tc := ⟨.hbm, 247, rfl⟩
abbrev main_while0b_v218 : Ref sig .tc := ⟨.hbm, 248, rfl⟩
abbrev main_while0b_c_40 : Ref sig .tc := ⟨.hbm, 249, rfl⟩
abbrev main_while0b_v219 : Ref sig .tc := ⟨.hbm, 250, rfl⟩
abbrev main_while0b_c_41 : Ref sig .tc := ⟨.hbm, 251, rfl⟩
abbrev main_while0b_v220 : Ref sig .tc := ⟨.hbm, 252, rfl⟩
abbrev main_while0b_v221 : Ref sig .tc := ⟨.hbm, 253, rfl⟩
abbrev main_while0b_c_42 : Ref sig .tc := ⟨.hbm, 254, rfl⟩
abbrev main_while0b_v222 : Ref sig .tc := ⟨.hbm, 255, rfl⟩
abbrev main_while0b_v223 : Ref sig .tc := ⟨.hbm, 256, rfl⟩
abbrev main_while0b_c_43 : Ref sig .tc := ⟨.hbm, 257, rfl⟩
abbrev main_while0b_c_44 : Ref sig .tc := ⟨.hbm, 258, rfl⟩
abbrev main_while0b_v224 : Ref sig .tc := ⟨.hbm, 259, rfl⟩
abbrev main_while0b_v225 : Ref sig .tc := ⟨.hbm, 260, rfl⟩
abbrev main_while0b_v226 : Ref sig .tc := ⟨.hbm, 261, rfl⟩
abbrev main_while0b_v227 : Ref sig .tc := ⟨.hbm, 262, rfl⟩
abbrev main_while0b_v228 : Ref sig .tc := ⟨.hbm, 263, rfl⟩
abbrev main_while0b_v229 : Ref sig .tc := ⟨.hbm, 264, rfl⟩
abbrev main_while0b_c_45 : Ref sig .tc := ⟨.hbm, 265, rfl⟩
abbrev main_while0b_v230 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_values_28 : Ref sig .tc := ⟨.hbm, 271, rfl⟩
abbrev main_indices_29 : Ref sig .tc := ⟨.hbm, 272, rfl⟩
abbrev main_c_30 : Ref sig .tc := ⟨.hbm, 273, rfl⟩
abbrev main_v196 : Ref sig .tc := ⟨.hbm, 274, rfl⟩
abbrev main_v197 : Ref sig .tc := ⟨.hbm, 275, rfl⟩
abbrev main_c_31 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_c_32 : Ref sig .tc := ⟨.hbm, 282, rfl⟩
abbrev main_v203 : Ref sig .tc := ⟨.hbm, 283, rfl⟩
abbrev main_v204 : Ref sig .tc := ⟨.hbm, 284, rfl⟩
abbrev main_c_33 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩

abbrev nD : Nat := 1
abbrev τ : Topo := Topo.v7x

variable {F : FTy → Type} [FloatOps F]

abbrev main_while0_count : Scf.Loop 32 := ⟨0#32, 256#32, 1#32⟩
-- ==== Proof.Spec.lean ====
/- The values the two programs compute, as plain functions of coordinates: the grid cell and the stride of an anchor, its
   decoded box and its score for a class, both from the flat predictions `f`. -/
module

public import Idealize.ShloMosaic.Lib.Pointwise

@[expose] public section

noncomputable section

namespace Cert.Spec

open Idealize.ShloMosaic

/-- The column of an anchor in its level's grid. -/
def gx (n : ℕ) : ℕ := if n < 4096 then n % 64 else if n < 5120 then (n - 4096) % 32 else (n - 5120) % 16

/-- The row of an anchor in its level's grid. -/
def gy (n : ℕ) : ℕ := if n < 4096 then n / 64 else if n < 5120 then (n - 4096) / 32 else (n - 5120) / 16

/-- The stride of an anchor's level, as the programs spell the constants. -/
def stride (n : ℕ) : EReal :=
  if n < 4096 then Ideal.ofBits .f32 0x41000000#32
  else if n < 5120 then Ideal.ofBits .f32 0x41800000#32 else Ideal.ofBits .f32 0x42000000#32

/-- A natural number below the word's half, as a float. -/
def nf (n : ℕ) : EReal := ((((BitVec.ofNat 32 n).toInt : ℤ) : ℝ) : EReal)

/-- The flat predictions: image, anchor, channel. -/
abbrev Flat := Fin 16 → Fin 5376 → Fin 85 → EReal

variable (f : Flat)

/-- The upper left corner (k = 0, 1) of an anchor's box. -/
def corner (b : Fin 16) (n : Fin 5376) : Fin 2 → EReal
  | 0 => (f b n 0 + nf (gx n)) * stride n
  | 1 => (f b n 1 + nf (gy n)) * stride n

/-- The width and the height of an anchor's box. -/
def extent (b : Fin 16) (n : Fin 5376) : Fin 2 → EReal
  | 0 => Ideal.exp (f b n 2) * stride n
  | 1 => Ideal.exp (f b n 3) * stride n

/-- An anchor's box: upper left corner, lower right corner. -/
def box (b : Fin 16) (n : Fin 5376) : Fin 4 → EReal
  | 0 => corner f b n 0
  | 1 => corner f b n 1
  | 2 => corner f b n 0 + extent f b n 0
  | 3 => corner f b n 1 + extent f b n 1

/-- An anchor's score for a class. -/
def score (b : Fin 16) (n : Fin 5376) (k : Fin 80) : EReal :=
  Ideal.logistic (f b n 4) * Ideal.logistic (f b n ⟨5 + k.val, by omega⟩)

/-- The area of a box given by its corners. -/
def area (x : Fin 4 → EReal) : EReal := max (x 2 - x 0) 0 * max (x 3 - x 1) 0

/-- The area two boxes share. -/
def inter (x y : Fin 4 → EReal) : EReal :=
  max (min (x 2) (y 2) - max (x 0) (y 0)) 0 * max (min (x 3) (y 3) - max (x 1) (y 1)) 0

/-- Intersection over union, the union kept away from zero by a small constant. -/
def iou (x y : Fin 4 → EReal) : EReal :=
  Ideal.div (inter x y) (max (area x + area y - inter x y) (Ideal.ofBits .f32 0x322BCC77#32))

/-- Candidate `i` suppresses candidate `j`: same class, a later place, more than half overlap. -/
def supp (x : Fin 256 → Fin 4 → EReal) (cls : Fin 256 → EReal) (i j : Fin 256) : Bool :=
  decide (cls i = cls j ∧ i < j ∧ Ideal.ofBits .f32 0x3F000000#32 < iou (x i) (x j))

/-- Which candidates are kept after the first `k` of them had their say. -/
def keep (S : Fin 256 → Fin 256 → Bool) : ℕ → Fin 256 → Bool
  | 0, _ => true
  | k + 1, j => if h : k < 256 then keep S k j && !(keep S k ⟨k, h⟩ && S ⟨k, h⟩ j) else keep S k j

/-- A candidate's row: its box, its class, its score. -/
def rowOf (x : Fin 4 → EReal) (cls sc : EReal) (q : Fin 6) : EReal :=
  if h : q.val < 4 then x ⟨q.val, h⟩ else if q.val < 5 then cls else sc

/-- A flag as a number. -/
def bit (b : Bool) : EReal := if b then 1 else 0

end Cert.Spec

end
-- ==== Proof.GridWords.lean ====
/- The decode kernel's integer arithmetic: the level flags, the column and the row of every anchor, evaluated. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- The anchors' numbers. -/
def anchorV : IVec S5376x1 32 := iota .tc S5376x1 32 [0] iota_S5376x1_d0_w32

/-- The anchors' columns as the decode kernel computes them. -/
def gxV : IVec S5376x1 32 :=
  k0_pay9 anchorV k0_pay4 k0_pay5 k0_pay6 (Scalar.select (Scalar.cmpi .eq 32#32 0#32) 1#32 32#32) k0_pay7 k0_pay8

/-- The anchors' rows as the decode kernel computes them. -/
def gyV : IVec S5376x1 32 :=
  select k0_pay5 (k0_pay14 (k0_pay11 anchorV) (k0_pay12 anchorV) (k0_pay13 anchorV))
    (select k0_pay4 (k0_pay15 anchorV)
      (select (andi (k0_pay17 anchorV) (cmpi .ne (k0_pay18 anchorV) k0_pay19))
        (subi (k0_pay16 anchorV) (broadcast S5376x1 1#32)) (k0_pay16 anchorV)))

theorem gxV_eq : ∀ n : Fin 5376, (gxV (ix2 n 0) : BitVec 32) = BitVec.ofNat 32 (Cert.Spec.gx n) := by
  decide +kernel

theorem gyV_eq : ∀ n : Fin 5376, (gyV (ix2 n 0) : BitVec 32) = BitVec.ofNat 32 (Cert.Spec.gy n) := by
  decide +kernel

theorem level1_eq : ∀ n : Fin 5376, (k0_pay4 (ix2 n 0) : BitVec 1) = if n.val < 4096 then 0 else 1 := by
  decide +kernel

theorem level2_eq : ∀ n : Fin 5376, (k0_pay5 (ix2 n 0) : BitVec 1) = if n.val < 5120 then 0 else 1 := by
  decide +kernel

end Cert.KernelIdeal.Value

end
-- ==== Proof.Region0.lean ====
/- The decode region: the arrays it leaves are the scores and the boxes of the flat predictions it finds. -/
module

public import proofs.«01_k».proof.Proof.Gen.KernelIdeal.Frame
public import proofs.«01_k».proof.Proof.GridWords
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The flat predictions an array of the program's shape holds. -/
def flatOf (v : FVec Ideal S16x5376x85 .f32) : Cert.Spec.Flat := fun b n k => v (ix3 b n k)

/-- The box payload, over the anchors' rows and columns. -/
theorem box_pay (x : FVec Ideal S1x5376x85 .f32) (f : Cert.Spec.Flat) (b : Fin 16) (hf : ∀ n k, x (ix3 0 n k) = f b n k)
    (n : Fin 5376) (k : Fin 4) :
    k0_pay1 (F := Ideal) (k0_pay3 x) k0_pay4 k0_pay5 gxV (k0_pay14 (k0_pay11 anchorV) (k0_pay12 anchorV) (k0_pay13 anchorV)) (k0_pay15 anchorV) (k0_pay16 anchorV) (k0_pay17 anchorV) (k0_pay18 anchorV) k0_pay19 (ix3 0 n k) = Cert.Spec.box f b n k := by
  have hg : ∀ i : Fin 1, (gxV (ix2 n i) : BitVec 32) = BitVec.ofNat 32 (Cert.Spec.gx n) := fun i => by
    rw [Subsingleton.elim i 0]; exact gxV_eq n
  have hs : Scalar.select (k0_pay5 (ix2 n 0)) (Ideal.ofBits .f32 0x42000000#32)
      (Scalar.select (k0_pay4 (ix2 n 0)) (Ideal.ofBits .f32 0x41800000#32) (Ideal.ofBits .f32 0x41000000#32)) = Cert.Spec.stride n := by
    rw [level1_eq, level2_eq]
    unfold Cert.Spec.stride
    by_cases h1 : n.val < 4096
    · simp [h1, show n.val < 5120 by omega, Scalar.select]
    · by_cases h2 : n.val < 5120 <;> simp [h1, h2, Scalar.select]
  have hy := gyV_eq n
  unfold gyV at hy
  pointwise at hy
  fin_cases k <;> pointwise [k0_pay1, k0_pay3] <;> simp only [hf] <;>
    simp [hs, hy, gxV_eq, Cert.Spec.box, Cert.Spec.corner, Cert.Spec.extent, Cert.Spec.nf]
    <;> rfl

theorem score_pay (x : FVec Ideal S1x5376x85 .f32) (f : Cert.Spec.Flat) (b : Fin 16) (hf : ∀ n k, x (ix3 0 n k) = f b n k)
    (n : Fin 5376) (k : Fin 80) :
    k0_pay2 (F := Ideal) (k0_pay3 x) (ix3 0 n k) = Cert.Spec.score f b n k := by
  pointwise [k0_pay2, k0_pay3]
  simp only [hf]
  rfl

/-- An index of a rank three shape with a unit first axis. -/
theorem eq_ix3_unit {n1 n2 : ℕ} (y : (⟨3, ![1, n1, n2]⟩ : Shape).Idx) : y = ix3 (n0 := 1) 0 (y 1) (y 2) := by
  have h : y 0 = (0 : Fin 1) := Subsingleton.elim (α := Fin 1) _ _
  exact (eq_ix3 y).trans (congrArg (fun z => ix3 (n0 := 1) z (y 1) (y 2)) h)

variable (V : (c : Dev nD) → (b : Ref sig .tc) → Buf (Elt Ideal) ((c : Thread nD τ).loc b))

theorem idx0 : ∀ t : Fin cfg0.N, win0_0.index t = ![(grid0.coords t 0).val, 0, 0] ∧ win0_1.index t = ![(grid0.coords t 0).val, 0, 0] ∧ win0_2.index t = ![(grid0.coords t 0).val, 0, 0] :=
  (by decide +kernel : ∀ t : Fin grid0.N, _)

/-- The scores' array after the region. -/
theorem scores_final (c : Dev nD) : (dat0 V c).arrAt 1 cfg0.N =
    (fun j : S16x5376x80.Idx => Cert.Spec.score (flatOf (V c (Pipeline.arrRef spec0 0))) (j 0) (j 1) (j 2)) := by
  refine (dat0 V c).arrAt_eq_of_covers 1 _ (by decide +kernel) fun t hf y => ?_
  blk_simp
  rw [after0_1]
  unfold_out out0_1
  frame_out
  have e : y = ix3 (n0 := 1) (n1 := 5376) (n2 := 80) 0 (y 1) (y 2) :=
    eq_ix3_unit (n1 := 5376) (n2 := 80) y
  have e0 : (((cfg0.win 1).blk t).view.emb y 0 : Fin 16) = grid0.coords t 0 := by
    apply Fin.ext; blk_simp [idx0 t]
  have e1 : (((cfg0.win 1).blk t).view.emb y 1 : Fin 5376) = y 1 := by
    apply Fin.ext; blk_simp [idx0 t]
  have e2 : (((cfg0.win 1).blk t).view.emb y 2 : Fin 80) = y 2 := by
    apply Fin.ext; blk_simp [idx0 t]
  refine Eq.trans ?_ (congr (congr (congrArg (Cert.Spec.score (flatOf (V c (Pipeline.arrRef spec0 0)))) e0) e1) e2).symm
  rw [e]
  refine (score_pay (iblk0 V c 0 t) (flatOf (V c (Pipeline.arrRef spec0 0))) (grid0.coords t 0) (fun n k => ?_) (y 1) (y 2))
  blk_simp [iblk0, flatOf]
  refine congrArg _ ?_
  blk_ext [idx0 t]

/-- The boxes' array after the region. -/
theorem boxes_final (c : Dev nD) : (dat0 V c).arrAt 2 cfg0.N =
    (fun j : S16x5376x4.Idx => Cert.Spec.box (flatOf (V c (Pipeline.arrRef spec0 0))) (j 0) (j 1) (j 2)) := by
  refine (dat0 V c).arrAt_eq_of_covers 2 _ (by decide +kernel) fun t hf y => ?_
  blk_simp
  rw [after0_2]
  unfold_out out0_2
  frame_out
  have e : y = ix3 (n0 := 1) (n1 := 5376) (n2 := 4) 0 (y 1) (y 2) :=
    eq_ix3_unit (n1 := 5376) (n2 := 4) y
  have e0 : (((cfg0.win 2).blk t).view.emb y 0 : Fin 16) = grid0.coords t 0 := by
    apply Fin.ext; blk_simp [idx0 t]
  have e1 : (((cfg0.win 2).blk t).view.emb y 1 : Fin 5376) = y 1 := by
    apply Fin.ext; blk_simp [idx0 t]
  have e2 : (((cfg0.win 2).blk t).view.emb y 2 : Fin 4) = y 2 := by
    apply Fin.ext; blk_simp [idx0 t]
  refine Eq.trans ?_ (congr (congr (congrArg (Cert.Spec.box (flatOf (V c (Pipeline.arrRef spec0 0)))) e0) e1) e2).symm
  rw [e]
  refine (box_pay (iblk0 V c 0 t) (flatOf (V c (Pipeline.arrRef spec0 0))) (grid0.coords t 0) (fun n k => ?_) (y 1) (y 2))
  blk_simp [iblk0, flatOf]
  refine congrArg _ ?_
  blk_ext [idx0 t]

end Cert.KernelIdeal.Value

end
-- ==== Proof.NmsBody.lean ====
/- One image's suppression: what the kernel body leaves is the candidates' rows and scores times the flags of the kept ones. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- Two small naturals' words compared. -/
theorem slt_ofNat {a b : ℕ} (ha : a < 2147483648) (hb : b < 2147483648) :
    IntOp.cmpi CmpIPredicate.slt (BitVec.ofNat 32 a) (BitVec.ofNat 32 b) = BitVec.ofBool (decide (a < b)) := by
  have ea : (BitVec.ofNat 32 a).toInt = a := by
    rw [BitVec.toInt_eq_toNat_of_lt] <;> rw [BitVec.toNat_ofNat, Nat.mod_eq_of_lt (by omega)]; omega
  have eb : (BitVec.ofNat 32 b).toInt = b := by
    rw [BitVec.toInt_eq_toNat_of_lt] <;> rw [BitVec.toNat_ofNat, Nat.mod_eq_of_lt (by omega)]; omega
  show BitVec.ofBool ((BitVec.ofNat 32 a).slt (BitVec.ofNat 32 b)) = _
  rw [BitVec.slt, ea, eb]
  congr 1
  exact decide_eq_decide.mpr (by omega)

theorem eq_ofNat {a b : ℕ} (ha : a < 4294967296) (hb : b < 4294967296) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  refine ⟨fun h => ?_, fun h => by rw [h]⟩
  have := congrArg BitVec.toNat h
  rwa [BitVec.toNat_ofNat, BitVec.toNat_ofNat, Nat.mod_eq_of_lt (by omega), Nat.mod_eq_of_lt (by omega)] at this

/-- The suppression matrix the kernel stores, entry by entry. -/
theorem supp_pay (x0 : Vec Ideal S1x256x4 .f32) (x1 : Vec Ideal S1x1x256 .f32) (i j : Fin 256) :
    k1_pay1 (F := Ideal) (k1_pay7 x1) (k1_pay13 x0) (k1_pay14 x0) (FloatOps.ofBits FTy.f32 841731191#32) (ix2 i j)
      = Cert.Spec.bit (Cert.Spec.supp (fun a k => x0 (ix3 0 a k)) (fun a => x1 (ix3 0 0 a)) i j) := by
  pointwise [k1_pay1, k1_pay7, k1_pay13, k1_pay14, k1_pay9, k1_pay10, k1_pay11, k1_pay12, k1_pay6]
  rw [slt_ofNat (by omega) (by omega)]
  unfold Cert.Spec.supp Cert.Spec.iou Cert.Spec.area Cert.Spec.inter
  simp only [Bool.decide_and, ← Fin.lt_def]
  generalize decide (x1 (ix3 0 0 i) = x1 (ix3 0 0 j)) = p
  generalize decide (i < j) = q
  generalize Ideal.div _ _ = u
  generalize decide (Ideal.ofBits .f32 0x3F000000#32 < u) = r
  cases p <;> cases q <;> cases r <;> rfl

theorem iv_eq : ∀ k : Fin k1_t1_loop.trips, Scf.iv 0#32 1#32 k.val = BitVec.ofNat 32 k.val := by
  decide +kernel

theorem trips_eq : k1_t1_loop.trips = 256 := by decide +kernel

/-- A fold of maxima over a vector that is zero but in one place, where it is a flag. -/
theorem fold_max_one {ι : Type} [Fintype ι] [DecidableEq ι] (f : ι → EReal) (p : ι) (b : Bool) (hp : f p = Cert.Spec.bit b)
    (hf : ∀ x, x = p ∨ f x = 0 ∨ f x = Cert.Spec.bit b) :
    Finset.fold max (Ideal.ofBits .f32 0xFF800000#32) f Finset.univ = Cert.Spec.bit b := by
  have hb : Ideal.ofBits .f32 0xFF800000#32 = ⊥ := by simp [Ideal.ofBits, Ideal.ieee]
  have h0 : (0 : EReal) ≤ Cert.Spec.bit b := by cases b <;> simp [Cert.Spec.bit]
  refine le_antisymm (Finset.fold_max_le _ |>.mpr ⟨by rw [hb]; exact bot_le, fun x _ => ?_⟩)
    (Finset.le_fold_max _ |>.mpr (.inr ⟨p, Finset.mem_univ _, hp.ge⟩))
  rcases hf x with h | h | h
  · rw [h, hp]
  · rw [h]; exact h0
  · rw [h]

theorem one_sub_one : (1 : EReal) - 1 = 0 := by
  have : ((1 : ℝ) : EReal) - ((1 : ℝ) : EReal) = ((1 - 1 : ℝ) : EReal) := (EReal.coe_sub 1 1).symm
  simpa using this

/-- One trip on flags: the row's candidate, when kept, strikes out the ones it suppresses. -/
theorem trip_pay (k : Fin k1_t1_loop.trips) (h : k.val < 256) (acc row : FVec Ideal S1x256 .f32) (K R : Fin 256 → Bool) (b : Bool) (hb : K ⟨k.val, h⟩ = b)
    (hacc : ∀ j, acc (ix2 0 j) = Cert.Spec.bit (K j)) (hrow : ∀ j, row (ix2 0 j) = Cert.Spec.bit (R j)) (j : Fin 256) :
    k1_pay3 (F := Ideal) k acc row (ix2 0 j) = Cert.Spec.bit (K j && !(b && R j)) := by
  pointwise [k1_pay3]
  rw [fold_max_one _ (0, ⟨k.val, h⟩) b, hacc, hrow]
  · cases K j <;> cases b <;> cases R j <;> simp [Cert.Spec.bit, one_sub_one]
  · dsimp only
    rw [iv_eq, eq_ofNat (by omega) (by omega), hacc, hb]
    simp [Scalar.select]
  · rintro ⟨a, x⟩
    by_cases e : x = ⟨k.val, h⟩
    · left; rw [e, Subsingleton.elim a 0]
    · right; left
      dsimp only
      rw [iv_eq, eq_ofNat (by omega) (by omega)]
      have : ¬ x.val = k.val := fun h' => e (Fin.ext h')
      simp [Scalar.select, this]

theorem masked_pay (x2 : Vec Ideal S1x1x256 .f32) (v : FVec Ideal S1x256 .f32) (j : Fin 256) :
    k1_pay4 (F := Ideal) (k1_pay8 x2) v (ix3 0 0 j) = x2 (ix3 0 0 j) * v (ix2 0 j) := by
  pointwise [k1_pay4, k1_pay8]

theorem rows_pay (x0 : Vec Ideal S1x256x4 .f32) (x1 : Vec Ideal S1x1x256 .f32) (x2 : Vec Ideal S1x1x256 .f32)
    (v : FVec Ideal S1x256 .f32) (j : Fin 256) (q : Fin 6) :
    k1_pay5 (F := Ideal) (k1_pay6 x0) (k1_pay7 x1) (k1_pay8 x2) v (ix3 0 j q)
      = Cert.Spec.rowOf (fun k => x0 (ix3 0 j k)) (x1 (ix3 0 0 j)) (x2 (ix3 0 0 j)) q * v (ix2 0 j) := by
  pointwise [k1_pay5, k1_pay6, k1_pay7, k1_pay8]
  unfold Cert.Spec.rowOf
  by_cases h : q.val < 4
  · simp only [h, dite_true]
  · have : (q.val - 4 < 1) = (q.val < 5) := propext (by omega)
    simp only [h, dite_false, this]
    rfl

theorem k1_off1_val : ∀ k : Fin k1_t1_loop.trips, k1_off1 k = ![k.val, 0] := by
  decide +kernel

section body
variable (𝒱 : Variants) (c : Dev nD) (bd : Option 𝒱.V) (i : grid1.Coords) (arg1 : Memref sig .tc .vmem S1x256x4 .f32) (harg1 : arg1.IsWhole) (arg2 : Memref sig .tc .vmem S1x1x256 .f32) (harg2 : arg2.IsWhole) (arg3 : Memref sig .tc .vmem S1x1x256 .f32) (harg3 : arg3.IsWhole) (arg4 : Memref sig .tc .vmem S1x256x6 .f32) (harg4 : arg4.IsWhole) (arg5 : Memref sig .tc .vmem S1x1x256 .f32) (harg5 : arg5.IsWhole) (arg6 : Memref sig .tc .vmem S256x256 .f32) (harg6 : arg6.IsWhole)
  (x0 : FVec Ideal S1x256x4 .f32) (x1 : FVec Ideal S1x1x256 .f32) (x2 : FVec Ideal S1x1x256 .f32)

/-- The carried flags before trip `k`: the specification's. -/
theorem st_eq (P : FVec Ideal S256x256 .f32) (S : Fin 256 → Fin 256 → Bool)
    (hP : ∀ a b, P (ix2 a b) = Cert.Spec.bit (S a b)) (k : ℕ) (hk : k ≤ 256) (j : Fin 256) :
    st_k1_t1 (F := Ideal) 𝒱 c bd i arg1 harg1 arg2 harg2 arg3 harg3 arg4 harg4 arg5 harg5 arg6 harg6
        (arg6.view.writes (Elt Ideal) arg6.view.junk [⟨Rect.unit ![0, 0] ![256, 256] inb_S256x256_S256x256_0_0, P⟩])
        k1_pay2 k (ix2 0 j) = Cert.Spec.bit (Cert.Spec.keep S k j) := by
  induction k generalizing j with
  | zero =>
    rw [st_k1_t1_zero]
    pointwise [k1_pay2]
    rfl
  | succ k ih =>
    have h : k < 256 := hk
    rw [st_k1_t1_succ (k := ⟨k, trips_eq ▸ h⟩)]
    unfold tripR_k1_t1 trip_k1_t1
    dsimp only
    rw [View.readAt_writes_junk_eq_canon]
    refine (trip_pay ⟨k, trips_eq ▸ h⟩ h _ _ (Cert.Spec.keep S k) (S ⟨k, h⟩) _ rfl (fun j => ih h.le j) (fun j => ?_) j).trans ?_
    · rw [View.canon_cons_unit_lit' _ _ _ (by decide), ← hP]
      refine congrArg P ?_
      funext a
      apply Fin.ext
      fin_cases a <;> simp [k1_off1_val]
    · simp only [Cert.Spec.keep, h, dite_true]

/-- The flags the body ends with. -/
theorem st_end (j : Fin 256) :
    st_k1_t1 (F := Ideal) 𝒱 c bd i arg1 harg1 arg2 harg2 arg3 harg3 arg4 harg4 arg5 harg5 arg6 harg6
        (arg6.view.writes (Elt Ideal) arg6.view.junk [⟨Rect.unit ![0, 0] ![256, 256] inb_S256x256_S256x256_0_0,
          k1_pay1 (F := Ideal) (k1_pay7 x1) (k1_pay13 x0) (k1_pay14 x0) (FloatOps.ofBits FTy.f32 841731191#32)⟩])
        k1_pay2 (Scf.trips (0#32) (Scalar.addi 0#32 256#32) 1#32) (ix2 0 j)
      = Cert.Spec.bit (Cert.Spec.keep (Cert.Spec.supp (fun a k => x0 (ix3 0 a k)) (fun a => x1 (ix3 0 0 a))) 256 j) := by
  rw [show Scf.trips (0#32) (Scalar.addi 0#32 256#32) 1#32 = 256 from trips_eq]
  exact st_eq _ _ _ _ _ _ _ _ _ _ _ _ _ _ _ _ _ _ (fun a b => supp_pay x0 x1 a b) 256 le_rfl j

/-- What the body leaves in the masked scores' block. -/
theorem masked_out (j : Fin 256) :
    out1_A_4 (F := Ideal) c i arg1 harg1 arg2 harg2 arg3 harg3 arg4 harg4 arg5 harg5 arg6 harg6 x0 x1 x2 (ix3 0 0 j)
      = x2 (ix3 0 0 j)
        * Cert.Spec.bit (Cert.Spec.keep (Cert.Spec.supp (fun a k => x0 (ix3 0 a k)) (fun a => x1 (ix3 0 0 a))) 256 j) := by
  frame_out
  rw [masked_pay, st_end]

/-- What the body leaves in the candidates' block. -/
theorem rows_out (j : Fin 256) (q : Fin 6) :
    out1_A_3 (F := Ideal) c i arg1 harg1 arg2 harg2 arg3 harg3 arg4 harg4 arg5 harg5 arg6 harg6 x0 x1 x2 (ix3 0 j q)
      = Cert.Spec.rowOf (fun k => x0 (ix3 0 j k)) (x1 (ix3 0 0 j)) (x2 (ix3 0 0 j)) q
        * Cert.Spec.bit (Cert.Spec.keep (Cert.Spec.supp (fun a k => x0 (ix3 0 a k)) (fun a => x1 (ix3 0 0 a))) 256 j) := by
  frame_out
  rw [rows_pay, st_end]

end body

end Cert.KernelIdeal.Value

end
-- ==== Proof.Region1.lean ====
/- The suppression region: the arrays it leaves, from the candidates' boxes, classes and scores it finds. -/
module

public import proofs.«01_k».proof.Proof.Gen.KernelIdeal.Frame
public import proofs.«01_k».proof.Proof.NmsBody
public import proofs.«01_k».proof.Proof.Region0
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx1 : ∀ t : Fin cfg1.N, win1_0.index t = ![(grid1.coords t 0).val, 0, 0] ∧ win1_1.index t = ![(grid1.coords t 0).val, 0, 0] ∧ win1_2.index t = ![(grid1.coords t 0).val, 0, 0]
    ∧ win1_3.index t = ![(grid1.coords t 0).val, 0, 0] ∧ win1_4.index t = ![(grid1.coords t 0).val, 0, 0] :=
  (by decide +kernel : ∀ t : Fin grid1.N, _)

/-- The candidates' boxes, classes and scores as the region finds them. -/
def cbox (c : Dev nD) (b : Fin 16) (j : Fin 256) (k : Fin 4) : EReal := (V c (Pipeline.arrRef spec1 0) : FVec Ideal S16x256x4 .f32) (ix3 b j k)
def ccls (c : Dev nD) (b : Fin 16) (j : Fin 256) : EReal := (V c (Pipeline.arrRef spec1 1) : FVec Ideal S16x1x256 .f32) (ix3 b 0 j)
def csc (c : Dev nD) (b : Fin 16) (j : Fin 256) : EReal := (V c (Pipeline.arrRef spec1 2) : FVec Ideal S16x1x256 .f32) (ix3 b 0 j)

/-- The flag of a candidate. -/
def kept (x : Fin 256 → Fin 4 → EReal) (cls : Fin 256 → EReal) (j : Fin 256) : EReal :=
  Cert.Spec.bit (Cert.Spec.keep (Cert.Spec.supp x cls) 256 j)

theorem iblk1_0 (c : Dev nD) (t : Fin cfg1.N) (j : Fin 256) (k : Fin 4) :
    (iblk1 V c 0 t : FVec Ideal S1x256x4 .f32) (ix3 0 j k) = cbox V c (grid1.coords t 0) j k := by
  blk_simp [iblk1, cbox]
  refine congrArg _ ?_
  blk_ext [idx1 t]

theorem iblk1_1 (c : Dev nD) (t : Fin cfg1.N) (j : Fin 256) :
    (iblk1 V c 1 t : FVec Ideal S1x1x256 .f32) (ix3 0 0 j) = ccls V c (grid1.coords t 0) j := by
  blk_simp [iblk1, ccls]
  refine congrArg _ ?_
  blk_ext [idx1 t]

theorem iblk1_2 (c : Dev nD) (t : Fin cfg1.N) (j : Fin 256) :
    (iblk1 V c 2 t : FVec Ideal S1x1x256 .f32) (ix3 0 0 j) = csc V c (grid1.coords t 0) j := by
  blk_simp [iblk1, csc]
  refine congrArg _ ?_
  blk_ext [idx1 t]

/-- The candidates' rows after the region, as a function of coordinates. -/
def rowsAt (c : Dev nD) (b : Fin 16) (j : Fin 256) (q : Fin 6) : EReal :=
  Cert.Spec.rowOf (cbox V c b j) (ccls V c b j) (csc V c b j) q * kept (cbox V c b) (ccls V c b) j

/-- The masked scores after the region, as a function of coordinates. -/
def maskedAt (c : Dev nD) (b : Fin 16) (u : Fin 1) (j : Fin 256) : EReal :=
  csc V c b j * kept (cbox V c b) (ccls V c b) j

/-- What the body leaves at a point, at coordinates. -/
theorem rows_at (c : Dev nD) (t : Fin cfg1.N) (j : Fin 256) (q : Fin 6) :
    (outsAt1 V c t).1 (ix3 0 j q) = rowsAt V c (grid1.coords t 0) j q := by
  unfold outsAt1
  dsimp only
  refine (rows_out c _ _ _ _ _ _ _ _ _ _ _ _ _ _ _ _ j q).trans ?_
  unfold rowsAt kept
  rw [iblk1_1, iblk1_2]
  simp only [funext fun a => iblk1_1 V c t a, funext fun a => funext fun k => iblk1_0 V c t a k, funext fun k => iblk1_0 V c t j k]

theorem masked_at (c : Dev nD) (t : Fin cfg1.N) (u : Fin 1) (j : Fin 256) :
    (outsAt1 V c t).2 (ix3 0 u j) = maskedAt V c (grid1.coords t 0) u j := by
  obtain rfl : u = 0 := Subsingleton.elim _ _
  unfold outsAt1
  dsimp only
  refine (masked_out c _ _ _ _ _ _ _ _ _ _ _ _ _ _ _ _ j).trans ?_
  unfold maskedAt kept
  rw [iblk1_2]
  simp only [funext fun a => iblk1_1 V c t a, funext fun a => funext fun k => iblk1_0 V c t a k]

/-- The rows' array after the region. -/
theorem rows_final (c : Dev nD) : (dat1 V c).arrAt 3 cfg1.N =
    (fun j : S16x256x6.Idx => rowsAt V c (j 0) (j 1) (j 2)) := by
  refine (dat1 V c).arrAt_eq_of_covers 3 _ (by decide +kernel) fun t hf y => ?_
  blk_simp
  rw [after1_3]
  have e : y = ix3 (n0 := 1) (n1 := 256) (n2 := 6) 0 (y 1) (y 2) :=
    eq_ix3_unit (n1 := 256) (n2 := 6) y
  have e0 : (((cfg1.win 3).blk t).view.emb y 0 : Fin 16) = grid1.coords t 0 := by
    apply Fin.ext; blk_simp [idx1 t]
  have e1 : (((cfg1.win 3).blk t).view.emb y 1 : Fin 256) = y 1 := by
    apply Fin.ext; blk_simp [idx1 t]
  have e2 : (((cfg1.win 3).blk t).view.emb y 2 : Fin 6) = y 2 := by
    apply Fin.ext; blk_simp [idx1 t]
  refine Eq.trans ?_ (congr (congr (congrArg (rowsAt V c) e0) e1) e2).symm
  exact (congrArg (outsAt1 V c t).1 e).trans (rows_at V c t (y 1) (y 2))

/-- The masked scores' array after the region. -/
theorem masked_final (c : Dev nD) : (dat1 V c).arrAt 4 cfg1.N =
    (fun j : S16x1x256.Idx => maskedAt V c (j 0) (j 1) (j 2)) := by
  refine (dat1 V c).arrAt_eq_of_covers 4 _ (by decide +kernel) fun t hf y => ?_
  blk_simp
  rw [after1_4]
  have e : y = ix3 (n0 := 1) (n1 := 1) (n2 := 256) 0 (y 1) (y 2) :=
    eq_ix3_unit (n1 := 1) (n2 := 256) y
  have e0 : (((cfg1.win 4).blk t).view.emb y 0 : Fin 16) = grid1.coords t 0 := by
    apply Fin.ext; blk_simp [idx1 t]
  have e1 : (((cfg1.win 4).blk t).view.emb y 1 : Fin 1) = y 1 := by
    apply Fin.ext; blk_simp [idx1 t]
  have e2 : (((cfg1.win 4).blk t).view.emb y 2 : Fin 256) = y 2 := by
    apply Fin.ext; blk_simp [idx1 t]
  refine Eq.trans ?_ (congr (congr (congrArg (maskedAt V c) e0) e1) e2).symm
  exact (congrArg (outsAt1 V c t).2 e).trans (masked_at V c t (y 1) (y 2))

end Cert.KernelIdeal.Value

end
-- ==== Proof.HostOps.lean ====
/- Host operations read at an index, at any sizes: a top-k as positions, a batched gather of rows and of single elements at
   natural row numbers, and the words of small naturals under the host's integer operations. -/
module

public import Idealize.ShloMosaic.Lib.Pointwise

@[expose] public section

set_option maxRecDepth 16384

noncomputable section

namespace Cert.HostOps

open Idealize.ShloMosaic

/-! ## Top-k -/

/-- A top-k along the second axis: each of its places holds some position's element and that position. -/
theorem topK_spec {B N K : ℕ} {α : Type} (gt : α → α → BitVec 1) (x : (⟨2, ![B, N]⟩ : Shape).Idx → α)
    (h : (⟨2, ![B, N]⟩ : Shape).Slices (fun _ => 0) ⟨2, ![B, K]⟩) (b : Fin B) (j : Fin K) :
    ∃ p : Fin N, (Host.topK ⟨2, ![B, K]⟩ 1 gt x h).1 (ix2 b j) = x (ix2 b p)
      ∧ (Host.topK ⟨2, ![B, K]⟩ 1 gt x h).2 (ix2 b j) = BitVec.ofNat 32 p.val := by
  unfold Host.topK Host.sort2 extractStridedSlice
  simp only [show (1 : ℕ) < (⟨2, ![B, N]⟩ : Shape).rank from Nat.lt_succ_self 1, dite_true]
  generalize sortedFrom _ _ = p
  refine ⟨p, congrArg x (funext fun a => Fin.ext ?_), ?_⟩
  · match a with
    | ⟨0, _⟩ => exact Nat.zero_add _
    | ⟨1, _⟩ => rfl
  · rfl

/-- The position a top-k takes its place `j` from. -/
def pick {B N K : ℕ} {α : Type} (gt : α → α → BitVec 1) (x : (⟨2, ![B, N]⟩ : Shape).Idx → α)
    (h : (⟨2, ![B, N]⟩ : Shape).Slices (fun _ => 0) ⟨2, ![B, K]⟩) (b : Fin B) (j : Fin K) : Fin N :=
  (topK_spec gt x h b j).choose

theorem topK_val {B N K : ℕ} {α : Type} (gt : α → α → BitVec 1) (x : (⟨2, ![B, N]⟩ : Shape).Idx → α)
    (h : (⟨2, ![B, N]⟩ : Shape).Slices (fun _ => 0) ⟨2, ![B, K]⟩) (b : Fin B) (j : Fin K) :
    (Host.topK ⟨2, ![B, K]⟩ 1 gt x h).1 (ix2 b j) = x (ix2 b (pick gt x h b j)) :=
  (topK_spec gt x h b j).choose_spec.1

theorem topK_idx {B N K : ℕ} {α : Type} (gt : α → α → BitVec 1) (x : (⟨2, ![B, N]⟩ : Shape).Idx → α)
    (h : (⟨2, ![B, N]⟩ : Shape).Slices (fun _ => 0) ⟨2, ![B, K]⟩) (b : Fin B) (j : Fin K) :
    (Host.topK ⟨2, ![B, K]⟩ 1 gt x h).2 (ix2 b j) = BitVec.ofNat 32 (pick gt x h b j).val :=
  (topK_spec gt x h b j).choose_spec.2

/-! ## Gathers -/

/-- The dimension numbers of a batched gather of whole rows. -/
abbrev rowsDims (B N C K : ℕ)
    (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- A batched gather of rows: row `idx[b, k, 0]`, when that names a row. -/
theorem gather_rows {B N C K : ℕ} {α : Type}
    (wf : GatherDims.WF ⟨3, ![B, N, C]⟩ ⟨3, ![B, K, 1]⟩ ⟨3, ![B, K, C]⟩ [2] [1] [0] [1] [0] 2 ![1, 1, C])
    (x : (⟨3, ![B, N, C]⟩ : Shape).Idx → α) (idx : IVec ⟨3, ![B, K, 1]⟩ 32) (b : Fin B) (k : Fin K) (q : Fin C) (n : Fin N)
    (hn : (idx (ix3 b k 0)).toInt.toNat = n.val) :
    Host.gather (rowsDims B N C K wf) x idx (ix3 b k q) = x (ix3 b n q) := by
  unfold Host.gather
  refine congrArg x (funext fun a => Fin.ext ?_)
  show (rowsDims B N C K wf).start (ix3 b k q) idx a + (rowsDims B N C K wf).batchCoord (ix3 b k q) a
      + (rowsDims B N C K wf).offCoord (ix3 b k q) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims B N C K wf).startIndexMap from List.mem_singleton.mpr rfl)]
    have hsi : (rowsDims B N C K wf).siIdx (ix3 b k q) ⟨List.idxOf (1 : Fin 3) (rowsDims B N C K wf).startIndexMap,
        List.idxOf_lt_length_iff.2 (List.mem_singleton.mpr rfl)⟩ = ix3 b k 0 := by
      funext b; refine Fin.ext ?_
      match b with
      | ⟨0, _⟩ => rfl
      | ⟨1, _⟩ => rfl
      | ⟨2, _⟩ => rfl
    rw [hsi, hn]
    exact Nat.min_eq_left (Nat.le_sub_one_of_lt n.isLt)
  · rw [GatherDims.batchCoord_eq_zero _ _ _ (fun h => by simp at h)]
    unfold GatherDims.start GatherDims.offCoord
    rw [dif_neg (by simp), dif_pos ((GatherDims.mem_sKept _ _).mpr (by simp))]
    simp only [Nat.zero_add]
    rfl

/-- The dimension numbers of a batched gather of single elements. -/
abbrev eltsDims (B N K : ℕ)
    (wf : GatherDims.WF ⟨2, ![B, N]⟩ ⟨3, ![B, K, 1]⟩ ⟨2, ![B, K]⟩ [] [1] [0] [1] [0] 2 ![1, 1]) :
    GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

/-- A batched gather of elements: element `idx[b, k, 0]`, when that names one. -/
theorem gather_elts {B N K : ℕ} {α : Type}
    (wf : GatherDims.WF ⟨2, ![B, N]⟩ ⟨3, ![B, K, 1]⟩ ⟨2, ![B, K]⟩ [] [1] [0] [1] [0] 2 ![1, 1])
    (x : (⟨2, ![B, N]⟩ : Shape).Idx → α) (idx : IVec ⟨3, ![B, K, 1]⟩ 32) (b : Fin B) (k : Fin K) (n : Fin N)
    (hn : (idx (ix3 b k 0)).toInt.toNat = n.val) :
    Host.gather (eltsDims B N K wf) x idx (ix2 b k) = x (ix2 b n) := by
  unfold Host.gather
  refine congrArg x (funext fun a => Fin.ext ?_)
  show (eltsDims B N K wf).start (ix2 b k) idx a + (eltsDims B N K wf).batchCoord (ix2 b k) a
      + (eltsDims B N K wf).offCoord (ix2 b k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (eltsDims B N K wf).startIndexMap from List.mem_singleton.mpr rfl)]
    have hsi : (eltsDims B N K wf).siIdx (ix2 b k) ⟨List.idxOf (1 : Fin 2) (eltsDims B N K wf).startIndexMap,
        List.idxOf_lt_length_iff.2 (List.mem_singleton.mpr rfl)⟩ = ix3 b k 0 := by
      funext b; refine Fin.ext ?_
      match b with
      | ⟨0, _⟩ => rfl
      | ⟨1, _⟩ => rfl
      | ⟨2, _⟩ => rfl
    rw [hsi, hn]
    exact Nat.min_eq_left (Nat.le_sub_one_of_lt n.isLt)

/-! ## Words of small naturals -/

theorem toNat_nat {n : ℕ} (h : n < 2147483648) : (BitVec.ofNat 32 n).toNat = n := by
  rw [BitVec.toNat_ofNat, Nat.mod_eq_of_lt (by omega)]

theorem toInt_nat {n : ℕ} (h : n < 2147483648) : (BitVec.ofNat 32 n).toInt = n := by
  rw [BitVec.toInt_eq_toNat_of_lt] <;> rw [toNat_nat h]; omega

theorem msb_nat {n : ℕ} (h : n < 2147483648) : (BitVec.ofNat 32 n).msb = false := by
  rw [BitVec.msb_eq_false_iff_two_mul_lt, toNat_nat h]; omega

theorem slt_nat {a b : ℕ} (ha : a < 2147483648) (hb : b < 2147483648) :
    IntOp.cmpi CmpIPredicate.slt (BitVec.ofNat 32 a) (BitVec.ofNat 32 b) = BitVec.ofBool (decide (a < b)) := by
  show BitVec.ofBool ((BitVec.ofNat 32 a).slt (BitVec.ofNat 32 b)) = _
  rw [BitVec.slt, toInt_nat ha, toInt_nat hb]
  congr 1
  exact decide_eq_decide.mpr (by omega)

theorem sge_nat {a b : ℕ} (ha : a < 2147483648) (hb : b < 2147483648) :
    IntOp.cmpi CmpIPredicate.sge (BitVec.ofNat 32 a) (BitVec.ofNat 32 b) = BitVec.ofBool (decide (b ≤ a)) := by
  show BitVec.ofBool ((BitVec.ofNat 32 b).sle (BitVec.ofNat 32 a)) = _
  rw [BitVec.sle, toInt_nat ha, toInt_nat hb]
  congr 1
  exact decide_eq_decide.mpr (by omega)

theorem sle_nat {a b : ℕ} (ha : a < 2147483648) (hb : b < 2147483648) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  rw [BitVec.sle, toInt_nat ha, toInt_nat hb]
  congr 1
  exact decide_eq_decide.mpr (by omega)

theorem eq_nat {a b : ℕ} (ha : a < 2147483648) (hb : b < 2147483648) : (BitVec.ofNat 32 a = BitVec.ofNat 32 b) ↔ a = b := by
  refine ⟨fun h => ?_, fun h => by rw [h]⟩
  have := congrArg BitVec.toNat h
  rwa [toNat_nat ha, toNat_nat hb] at this

/-- A word read off an index is not negative: the wrap of negative ones leaves it. -/
theorem wrap_nat {n : ℕ} (h : n < 2147483648) (w : BitVec 32) :
    Scalar.select (IntOp.cmpi CmpIPredicate.slt (BitVec.ofNat 32 n) 0#32) w (BitVec.ofNat 32 n) = BitVec.ofNat 32 n := by
  rw [show (0#32 : BitVec 32) = BitVec.ofNat 32 0 from rfl, slt_nat h (by omega)]
  simp [Scalar.select]

/-- An index in bounds passes the bounds test. -/
theorem inb_nat {n N : ℕ} (hN : N < 2147483648) (h : n ≤ N) :
    IntOp.andi (IntOp.cmpi CmpIPredicate.sge (BitVec.ofNat 32 n) 0#32) (IntOp.cmpi CmpIPredicate.sle (BitVec.ofNat 32 n) (BitVec.ofNat 32 N)) = 1#1 := by
  rw [show (0#32 : BitVec 32) = BitVec.ofNat 32 0 from rfl, sge_nat (by omega) (by omega), sle_nat (by omega) hN]
  simp [h, IntOp.andi]

theorem not_corner {n d : ℕ} (hn : n < 2147483648) (hd : d < 2147483648) (h0 : 0 < d) :
    ¬ IntOp.SDivCorner (BitVec.ofNat 32 n) (BitVec.ofNat 32 d) := by
  rintro (h | ⟨h, -⟩)
  · have := congrArg BitVec.toNat h
    rw [toNat_nat hd] at this
    simp at this; omega
  · have := congrArg BitVec.toNat h
    rw [toNat_nat hn] at this
    simp at this; omega

theorem divsi_nat {n d : ℕ} (hn : n < 2147483648) (hd : d < 2147483648) (h0 : 0 < d) :
    IntOp.divsi ArithUnit.host (BitVec.ofNat 32 n) (BitVec.ofNat 32 d) = BitVec.ofNat 32 (n / d) := by
  unfold IntOp.divsi
  rw [if_neg (not_corner hn hd h0), BitVec.sdiv_eq, msb_nat hn, msb_nat hd]
  apply BitVec.eq_of_toNat_eq
  show (BitVec.udiv _ _).toNat = _
  rw [BitVec.udiv_eq, BitVec.toNat_udiv, toNat_nat hn, toNat_nat hd, toNat_nat (Nat.lt_of_le_of_lt (Nat.div_le_self _ _) hn)]

theorem remsi_nat {n d : ℕ} (hn : n < 2147483648) (hd : d < 2147483648) (h0 : 0 < d) :
    IntOp.remsi ArithUnit.host (BitVec.ofNat 32 n) (BitVec.ofNat 32 d) = BitVec.ofNat 32 (n % d) := by
  unfold IntOp.remsi
  rw [if_neg (not_corner hn hd h0), BitVec.srem_eq, msb_nat hn, msb_nat hd]
  apply BitVec.eq_of_toNat_eq
  show (BitVec.ofNat 32 n % BitVec.ofNat 32 d).toNat = _
  rw [BitVec.toNat_umod, toNat_nat hn, toNat_nat hd, toNat_nat (Nat.lt_of_le_of_lt (Nat.mod_le _ _) hn)]

/-- The floor division by eighty of a word read off an index. -/
theorem quot_nat {n : ℕ} (hn : n < 2147483648) :
    Scalar.select
      (IntOp.andi
        (IntOp.cmpi CmpIPredicate.ne
          (if BitVec.ofNat 32 n = 0 then (0 : BitVec 32) else if (BitVec.ofNat 32 n).msb = true then -1 else 1)
          (if (80#32 : BitVec 32) = 0 then 0 else if BitVec.msb 80#32 = true then -1 else 1))
        (IntOp.cmpi CmpIPredicate.ne (IntOp.remsi ArithUnit.host (BitVec.ofNat 32 n) 80#32) 0#32))
      (IntOp.subi (IntOp.divsi ArithUnit.host (BitVec.ofNat 32 n) 80#32) 1#32)
      (IntOp.divsi ArithUnit.host (BitVec.ofNat 32 n) 80#32) = BitVec.ofNat 32 (n / 80) := by
  rw [show (80#32 : BitVec 32) = BitVec.ofNat 32 80 from rfl, divsi_nat hn (by omega) (by omega),
    remsi_nat hn (by omega) (by omega), msb_nat hn]
  rcases Nat.eq_zero_or_pos n with rfl | h
  · rfl
  · rw [if_neg (fun e => by have := (eq_nat hn (by omega : 0 < 2147483648)).mp e; omega)]
    have e : IntOp.cmpi CmpIPredicate.ne (if false = true then (-1 : BitVec 32) else 1)
        (if (BitVec.ofNat 32 80 : BitVec 32) = 0 then 0 else if BitVec.msb (BitVec.ofNat 32 80) = true then -1 else 1) = 0#1 := by decide
    rw [e]
    simp [IntOp.andi, Scalar.select]

/-- The remainder by eighty of a word read off an index. -/
theorem rem_nat {n : ℕ} (hn : n < 2147483648) :
    Scalar.select
      (IntOp.andi
        (IntOp.cmpi CmpIPredicate.ne
          (IntOp.cmpi CmpIPredicate.slt (IntOp.remsi ArithUnit.host (BitVec.ofNat 32 n) 80#32) 0#32)
          (IntOp.cmpi CmpIPredicate.slt 80#32 0#32))
        (IntOp.cmpi CmpIPredicate.ne (IntOp.remsi ArithUnit.host (BitVec.ofNat 32 n) 80#32) 0#32))
      (IntOp.addi (IntOp.remsi ArithUnit.host (BitVec.ofNat 32 n) 80#32) 80#32)
      (IntOp.remsi ArithUnit.host (BitVec.ofNat 32 n) 80#32) = BitVec.ofNat 32 (n % 80) := by
  have hm : n % 80 < 2147483648 := by omega
  rw [show (80#32 : BitVec 32) = BitVec.ofNat 32 80 from rfl, show (0#32 : BitVec 32) = BitVec.ofNat 32 0 from rfl,
    remsi_nat hn (by omega) (by omega), slt_nat hm (by omega), slt_nat (by omega) (by omega)]
  simp [IntOp.andi, IntOp.cmpi, Scalar.select]

/-- The bounds tests of one index, folded over the single index axis. -/
theorem fold_one (f : Fin 1 → BitVec 1) (h : f 0 = 1#1) : Finset.fold IntOp.andi (1#1) f Finset.univ = 1#1 := by
  rw [Finset.univ_unique, Finset.fold_singleton]
  show IntOp.andi (f 0) 1#1 = _
  rw [h]
  rfl

theorem select_one {α : Type} (x y : α) : Scalar.select (1#1) x y = x := rfl

end Cert.HostOps

end
-- ==== Proof.Select.lean ====
/- The two selections around the suppression and the result both programs compute, as functions of the flat predictions. -/
module

public import proofs.«01_k».proof.Proof.Spec
public import proofs.«01_k».proof.Proof.HostOps

@[expose] public section

set_option maxRecDepth 16384

noncomputable section

namespace Cert.Spec

open Idealize.ShloMosaic

/-- The total order's test both selections sort by. -/
abbrev gtTest : EReal → EReal → BitVec 1 := FloatOps.cmpfTotal (F := Ideal) (φ := .f32) CmpDirection.gt

/-- The three pyramid levels laid out flat, one after the other. -/
def flatten (x : FVec Ideal ⟨4, ![16, 64, 64, 85]⟩ .f32) (y : FVec Ideal ⟨4, ![16, 32, 32, 85]⟩ .f32)
    (z : FVec Ideal ⟨4, ![16, 16, 16, 85]⟩ .f32) : Flat := fun b n k =>
  if h : n.val < 4096 then x (ix4 b ⟨n.val / 64, by omega⟩ ⟨n.val % 64, by omega⟩ k)
  else if h' : n.val - 4096 < 1024 then y (ix4 b ⟨(n.val - 4096) / 32, by omega⟩ ⟨(n.val - 4096) % 32, by omega⟩ k)
  else z (ix4 b ⟨(n.val - 4096 - 1024) / 16, by omega⟩ ⟨(n.val - 4096 - 1024) % 16, by omega⟩ k)

/-- The anchor and the class of a position in the flat list of scores. -/
def anc (p : Fin 430080) : Fin 5376 := ⟨p.val / 80, by omega⟩
def cla (p : Fin 430080) : Fin 80 := ⟨p.val % 80, by omega⟩

variable (f : Flat)

/-- The flat list of scores. -/
def scores : (⟨2, ![16, 430080]⟩ : Shape).Idx → EReal := fun j => score f (j 0) (anc (j 1)) (cla (j 1))

theorem fits_scores : (⟨2, ![16, 430080]⟩ : Shape).Slices (fun _ => 0) ⟨2, ![16, 256]⟩ := by decide

theorem fits_masked : (⟨2, ![16, 256]⟩ : Shape).Slices (fun _ => 0) ⟨2, ![16, 100]⟩ := by decide

/-- The position of a candidate. -/
def cand (b : Fin 16) (j : Fin 256) : Fin 430080 := HostOps.pick gtTest (scores f) fits_scores b j

/-- A candidate's box, class, score and flag. -/
def candBox (b : Fin 16) (j : Fin 256) : Fin 4 → EReal := box f b (anc (cand f b j))
def candCls (b : Fin 16) (j : Fin 256) : EReal := nf (cla (cand f b j)).val
def candSc (b : Fin 16) (j : Fin 256) : EReal := score f b (anc (cand f b j)) (cla (cand f b j))
def alive (b : Fin 16) (j : Fin 256) : Bool := keep (supp (candBox f b) (candCls f b)) 256 j

/-- The scores the second selection sorts. -/
def masked : (⟨2, ![16, 256]⟩ : Shape).Idx → EReal := fun j => candSc f (j 0) (j 1) * bit (alive f (j 0) (j 1))

/-- The candidate a row of the result shows. -/
def shown (b : Fin 16) (r : Fin 100) : Fin 256 := HostOps.pick gtTest (masked f) fits_masked b r

/-- The result: the shown candidate's row, zero when it was suppressed. -/
def out (b : Fin 16) (r : Fin 100) (q : Fin 6) : EReal :=
  rowOf (candBox f b (shown f b r)) (candCls f b (shown f b r)) (candSc f b (shown f b r)) q * bit (alive f b (shown f b r))

end Cert.Spec

end
-- ==== Proof.KernelHost.lean ====
/- The kernel's host operations between and around its two regions, read at an index. -/
module

public import proofs.«01_k».proof.Proof.Gen.KernelIdeal.Frame
public import proofs.«01_k».proof.Proof.Select
public import Idealize.ShloMosaic.Lib.StableHlo.ReadAt
public import Idealize.ShloMosaic.Lib.Pointwise

@[expose] public section

set_option maxRecDepth 16384

noncomputable section

namespace Cert.KernelIdeal.Value

open Idealize.ShloMosaic Idealize.ShloMosaic.TcCoe Idealize.ShloMosaic.StableHlo
open Cert.KernelIdeal.Gen

variable (X : Valuation τ sig (Elt Ideal))

theorem flat_at (b : Fin 16) (n : Fin 5376) (k : Fin 85) :
    (after hostOps0 X (Proc.devRef .tc main_v3) : FVec Ideal S16x5376x85 .f32) (ix3 b n k)
      = Cert.Spec.flatten (X (Proc.devRef .tc main_arg1)) (X (Proc.devRef .tc main_arg2)) (X (Proc.devRef .tc main_arg3)) b n k := by
  after_reads_at
  unfold Cert.Spec.flatten
  split_ifs <;> after_reads_at

/-- The first selection, over the region's scores laid out flat. -/
theorem values_eq (S : FVec Ideal S16x430080 .f32)
    (hS : ∀ (b : Fin 16) (p : Fin 430080), (X (Proc.devRef .tc main_v4_0) : FVec Ideal S16x5376x80 .f32) (ix3 b (Cert.Spec.anc p) (Cert.Spec.cla p)) = S (ix2 b p)) :
    (after hostOps1 X (Proc.devRef .tc main_values) : FVec Ideal S16x256 .f32)
      = (Host.topK ⟨2, ![16, 256]⟩ 1 Cert.Spec.gtTest S Cert.Spec.fits_scores).1 := by
  after_reads_simp
  refine congrArg (fun z => (Host.topK S16x256 1 Cert.Spec.gtTest z sliceFits_S16x430080_S16x256).1) (funext fun i => ?_)
  obtain ⟨b, p, rfl⟩ : ∃ (b : Fin 16) (p : Fin 430080), i = ix2 b p := ⟨i 0, i 1, eq_ix2 i⟩
  rw [← hS b p]
  pointwise [Cert.Spec.anc, Cert.Spec.cla]

theorem indices_eq (S : FVec Ideal S16x430080 .f32)
    (hS : ∀ (b : Fin 16) (p : Fin 430080), (X (Proc.devRef .tc main_v4_0) : FVec Ideal S16x5376x80 .f32) (ix3 b (Cert.Spec.anc p) (Cert.Spec.cla p)) = S (ix2 b p)) :
    (after hostOps1 X (Proc.devRef .tc main_indices) : IVec S16x256 32)
      = (Host.topK ⟨2, ![16, 256]⟩ 1 Cert.Spec.gtTest S Cert.Spec.fits_scores).2 := by
  after_reads_simp
  refine congrArg (fun z => (Host.topK S16x256 1 Cert.Spec.gtTest z sliceFits_S16x430080_S16x256).2) (funext fun i => ?_)
  obtain ⟨b, p, rfl⟩ : ∃ (b : Fin 16) (p : Fin 430080), i = ix2 b p := ⟨i 0, i 1, eq_ix2 i⟩
  rw [← hS b p]
  pointwise [Cert.Spec.anc, Cert.Spec.cla]

theorem main_c_eq : after hostOps1 X (Proc.devRef .tc main_c) = (constantI S_ 32 80#32 : IVec S_ 32) := by
  after_reads_simp

theorem main_c0_eq : after hostOps1_2 X (Proc.devRef .tc main_c_0) = (constantI S_ 32 80#32 : IVec S_ 32) := by
  after_reads_simp

/-- The anchor of a selected position: the quotient by the number of classes. -/
theorem quot_at (b : Fin 16) (n : Fin 256) (p : Fin 430080)
    (hp : (X (Proc.devRef .tc main_indices) : IVec S16x256 32) (ix2 b n) = BitVec.ofNat 32 p.val)
    (hc : X (Proc.devRef .tc main_c) = (constantI S_ 32 80#32 : IVec S_ 32)) :
    (after hostOps1_1 X (Proc.devRef .tc main_v6) : IVec S16x256 32) (ix2 b n) = BitVec.ofNat 32 (Cert.Spec.anc p).val := by
  after_reads_at
  rw [hp, hc]
  exact HostOps.quot_nat (by omega)

/-- The class of a selected position: the remainder. -/
theorem rem_at (b : Fin 16) (n : Fin 256) (p : Fin 430080)
    (hp : (X (Proc.devRef .tc main_indices) : IVec S16x256 32) (ix2 b n) = BitVec.ofNat 32 p.val)
    (hc : X (Proc.devRef .tc main_c_0) = (constantI S_ 32 80#32 : IVec S_ 32)) :
    (after hostOps1_3 X (Proc.devRef .tc main_v7) : IVec S16x256 32) (ix2 b n) = BitVec.ofNat 32 (Cert.Spec.cla p).val := by
  after_reads_at
  rw [hp, hc]
  exact HostOps.rem_nat (by omega)

theorem v9_at (b : Fin 16) (n : Fin 256) : (after hostOps1_4 X (Proc.devRef .tc main_v9) : IVec S16x256x1 32) (ix3 b n 0)
    = (X (Proc.devRef .tc main_v6) : IVec S16x256 32) (ix2 b n) := by
  after_reads_at

theorem v8_at (b : Fin 16) (n : Fin 256) (p : ℕ) (hp : (X (Proc.devRef .tc main_v7) : IVec S16x256 32) (ix2 b n) = BitVec.ofNat 32 p) :
    (after hostOps1_4 X (Proc.devRef .tc main_v8) : FVec Ideal S16x256 .f32) (ix2 b n) = Cert.Spec.nf p := by
  after_reads_at
  rw [hp]
  rfl

/-- The boxes of the selected anchors. -/
theorem v10_at (b : Fin 16) (n : Fin 256) (k : Fin 4) (p : Fin 5376)
    (hp : (X (Proc.devRef .tc main_v9) : IVec S16x256x1 32) (ix3 b n 0) = BitVec.ofNat 32 p.val) :
    (after hostOps1_5 X (Proc.devRef .tc main_v10) : FVec Ideal S16x256x4 .f32) (ix3 b n k)
      = (X (Proc.devRef .tc main_v4_1) : FVec Ideal S16x5376x4 .f32) (ix3 b p k) := by
  after_reads_at
  rw [HostOps.fold_one _ (by rw [hp, HostOps.wrap_nat (by omega)]; exact HostOps.inb_nat (by omega) (by omega)), HostOps.select_one]
  refine HostOps.gather_rows gather_S16x5376x4_S16x256x1_S16x256x4_2_1_0_0_1_2_114.wf _ _ b n k p ?_
  pointwise
  rw [hp, HostOps.wrap_nat (by omega), HostOps.toInt_nat (by omega), Int.toNat_natCast]

theorem v11_at (b : Fin 16) (n : Fin 256) : (after hostOps1_6 X (Proc.devRef .tc main_v11) : FVec Ideal S16x1x256 .f32) (ix3 b 0 n)
    = (X (Proc.devRef .tc main_v8) : FVec Ideal S16x256 .f32) (ix2 b n) := by
  after_reads_at

theorem v12_at (b : Fin 16) (n : Fin 256) : (after hostOps1_6 X (Proc.devRef .tc main_v12) : FVec Ideal S16x1x256 .f32) (ix3 b 0 n)
    = (X (Proc.devRef .tc main_values) : FVec Ideal S16x256 .f32) (ix2 b n) := by
  after_reads_at

/-- The second selection, over the masked scores. -/
theorem v15_at (S : FVec Ideal S16x256 .f32)
    (hS : ∀ (b : Fin 16) (j : Fin 256), (X (Proc.devRef .tc main_v13_1) : FVec Ideal S16x1x256 .f32) (ix3 b 0 j) = S (ix2 b j))
    (b : Fin 16) (r : Fin 100) :
    (after hostOps2 X (Proc.devRef .tc main_v15) : IVec S16x100x1 32) (ix3 b r 0)
      = (Host.topK ⟨2, ![16, 100]⟩ 1 Cert.Spec.gtTest S Cert.Spec.fits_masked).2 (ix2 b r) := by
  after_reads_at
  refine congrArg (fun z => (Host.topK S16x100 1 Cert.Spec.gtTest z sliceFits_S16x256_S16x100).2 (ix2 b r)) (funext fun i => ?_)
  exact (hS (i 0) (i 1)).trans (congrArg S (eq_ix2 i).symm)

/-- The rows of the second selection. -/
theorem v16_at (b : Fin 16) (n : Fin 100) (k : Fin 6) (p : Fin 256)
    (hp : (X (Proc.devRef .tc main_v15) : IVec S16x100x1 32) (ix3 b n 0) = BitVec.ofNat 32 p.val) :
    (after hostOps2_1 X (Proc.devRef .tc main_v16) : FVec Ideal S16x100x6 .f32) (ix3 b n k)
      = (X (Proc.devRef .tc main_v13_0) : FVec Ideal S16x256x6 .f32) (ix3 b p k) := by
  after_reads_at
  rw [HostOps.fold_one _ (by rw [hp, HostOps.wrap_nat (by omega)]; exact HostOps.inb_nat (by omega) (by omega)), HostOps.select_one]
  refine HostOps.gather_rows gather_S16x256x6_S16x100x1_S16x100x6_2_1_0_0_1_2_116.wf _ _ b n k p ?_
  pointwise
  rw [hp, HostOps.wrap_nat (by omega), HostOps.toInt_nat (by omega), Int.toNat_natCast]

end Cert.KernelIdeal.Value

end
-- ==== Proof.KernelRun.lean ====
/- The kernel program's launch, with its result: every execution ends with the returned array at the last boundary contents
   of the generated fold (`Gen.W12`), the argument arrays unchanged. The launch is the generated frame's, read at one more buffer. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the returned array at the last boundary's contents and the arguments unchanged. -/
theorem result_run : θ_run defs (onTc (τ := τ) (main (F := F))) ⟨m, fun _ => 0, ρ⟩ (fun r => ∀ c : Dev nD,
      r.2.mem ((c.tc : Thread nD τ).loc main_v16) = W12 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨h c _ (mem_uc main_v16 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.KernelIdeal.Gen
-- ==== Proof.KernelValue.lean ====
/- The kernel's result at the reals: the two regions and the host operations around them put together. -/
module

public import proofs.«01_k».proof.Proof.Region0
public import proofs.«01_k».proof.Proof.Region1
public import proofs.«01_k».proof.Proof.KernelHost
public import proofs.«01_k».proof.Proof.KernelRun

@[expose] public section

set_option maxRecDepth 16384

noncomputable section

namespace Cert.KernelIdeal.Value

open Idealize.ShloMosaic Idealize.ShloMosaic.TcCoe Idealize.ShloMosaic.StableHlo
open Cert.KernelIdeal.Gen

variable (m : (l : Loc nD τ sig) → Buf (Elt Ideal) l) (ρ : Dev nD → PrngReg)

/-- The flat predictions of the arguments on a device. -/
def flat (c : Dev nD) : Cert.Spec.Flat :=
  Cert.Spec.flatten (m ((c : Thread nD τ).loc main_arg1)) (m ((c : Thread nD τ).loc main_arg2)) (m ((c : Thread nD τ).loc main_arg3))

theorem W1_v3 (c : Dev nD) : flatOf (V1 m ρ c (Pipeline.arrRef spec0 0)) = flat m c := by
  funext b n k
  exact flat_at (W0 m ρ c) b n k

theorem W2_scores (c : Dev nD) (b : Fin 16) (p : Fin 430080) :
    (W2 m ρ c (Proc.devRef .tc main_v4_0) : FVec Ideal S16x5376x80 .f32) (ix3 b (Cert.Spec.anc p) (Cert.Spec.cla p)) = Cert.Spec.scores (flat m c) (ix2 b p) := by
  have h : (W2 m ρ c (Proc.devRef .tc main_v4_0) : FVec Ideal S16x5376x80 .f32) = fun j : S16x5376x80.Idx => Cert.Spec.score (flat m c) (j 0) (j 1) (j 2) := by
    have e := (W2_arr m ρ c 1).trans (scores_final (V1 m ρ) c)
    rw [W1_v3] at e
    exact e
  exact congrFun h _

theorem W2_boxes (c : Dev nD) (b : Fin 16) (n : Fin 5376) (k : Fin 4) :
    (W2 m ρ c (Proc.devRef .tc main_v4_1) : FVec Ideal S16x5376x4 .f32) (ix3 b n k) = Cert.Spec.box (flat m c) b n k := by
  have h : (W2 m ρ c (Proc.devRef .tc main_v4_1) : FVec Ideal S16x5376x4 .f32) = fun j : S16x5376x4.Idx => Cert.Spec.box (flat m c) (j 0) (j 1) (j 2) := by
    have e := (W2_arr m ρ c 2).trans (boxes_final (V1 m ρ) c)
    rw [W1_v3] at e
    exact e
  exact congrFun h _

theorem W3_indices (c : Dev nD) (b : Fin 16) (n : Fin 256) :
    (W3 m ρ c (Proc.devRef .tc main_indices) : IVec S16x256 32) (ix2 b n) = BitVec.ofNat 32 (Cert.Spec.cand (flat m c) b n).val :=
  (congrFun (indices_eq (W2 m ρ c) _ (W2_scores m ρ c)) (ix2 b n)).trans (HostOps.topK_idx _ _ _ b n)

theorem W3_values (c : Dev nD) (b : Fin 16) (n : Fin 256) :
    (W3 m ρ c (Proc.devRef .tc main_values) : FVec Ideal S16x256 .f32) (ix2 b n) = Cert.Spec.candSc (flat m c) b n :=
  (congrFun (values_eq (W2 m ρ c) _ (W2_scores m ρ c)) (ix2 b n)).trans (HostOps.topK_val _ _ _ b n)

theorem W4_v6 (c : Dev nD) (b : Fin 16) (n : Fin 256) :
    (W4 m ρ c (Proc.devRef .tc main_v6) : IVec S16x256 32) (ix2 b n) = BitVec.ofNat 32 (Cert.Spec.anc (Cert.Spec.cand (flat m c) b n)).val :=
  quot_at (W3 m ρ c) b n _ (W3_indices m ρ c b n) (main_c_eq (W2 m ρ c))

theorem W5_indices (c : Dev nD) : W5 m ρ c (Proc.devRef .tc main_indices) = W3 m ρ c (Proc.devRef .tc main_indices) :=
  (W5_of m ρ c main_indices (by decide)).trans (W4_of m ρ c main_indices (by decide))

theorem W6_v7 (c : Dev nD) (b : Fin 16) (n : Fin 256) :
    (W6 m ρ c (Proc.devRef .tc main_v7) : IVec S16x256 32) (ix2 b n) = BitVec.ofNat 32 (Cert.Spec.cla (Cert.Spec.cand (flat m c) b n)).val :=
  rem_at (W5 m ρ c) b n _ ((congrFun (W5_indices m ρ c) (ix2 b n)).trans (W3_indices m ρ c b n)) (main_c0_eq (W4 m ρ c))

theorem W6_v6 (c : Dev nD) : W6 m ρ c (Proc.devRef .tc main_v6) = W4 m ρ c (Proc.devRef .tc main_v6) :=
  (W6_of m ρ c main_v6 (by decide)).trans (W5_of m ρ c main_v6 (by decide))

theorem W7_v9 (c : Dev nD) (b : Fin 16) (n : Fin 256) :
    (W7 m ρ c (Proc.devRef .tc main_v9) : IVec S16x256x1 32) (ix3 b n 0) = BitVec.ofNat 32 (Cert.Spec.anc (Cert.Spec.cand (flat m c) b n)).val :=
  (v9_at (W6 m ρ c) b n).trans ((congrFun (W6_v6 m ρ c) (ix2 b n)).trans (W4_v6 m ρ c b n))

theorem W7_v8 (c : Dev nD) (b : Fin 16) (n : Fin 256) :
    (W7 m ρ c (Proc.devRef .tc main_v8) : FVec Ideal S16x256 .f32) (ix2 b n) = Cert.Spec.candCls (flat m c) b n :=
  v8_at (W6 m ρ c) b n _ (W6_v7 m ρ c b n)

theorem W7_boxes (c : Dev nD) : W7 m ρ c (Proc.devRef .tc main_v4_1) = W2 m ρ c (Proc.devRef .tc main_v4_1) :=
  (W7_of m ρ c main_v4_1 (by decide)).trans <| (W6_of m ρ c main_v4_1 (by decide)).trans <| (W5_of m ρ c main_v4_1 (by decide)).trans <|
    (W4_of m ρ c main_v4_1 (by decide)).trans (W3_of m ρ c main_v4_1 (by decide))

theorem W9_boxes (c : Dev nD) (b : Fin 16) (n : Fin 256) (k : Fin 4) :
    (W9 m ρ c (Proc.devRef .tc main_v10) : FVec Ideal S16x256x4 .f32) (ix3 b n k) = Cert.Spec.candBox (flat m c) b n k :=
  (congrFun (W9_of m ρ c main_v10 (by decide)) (ix3 b n k)).trans <| (v10_at (W7 m ρ c) b n k _ (W7_v9 m ρ c b n)).trans <|
    (congrFun (W7_boxes m ρ c) _).trans (W2_boxes m ρ c b _ k)

theorem W9_cls (c : Dev nD) (b : Fin 16) (n : Fin 256) :
    (W9 m ρ c (Proc.devRef .tc main_v11) : FVec Ideal S16x1x256 .f32) (ix3 b 0 n) = Cert.Spec.candCls (flat m c) b n :=
  (v11_at (W8 m ρ c) b n).trans <| (congrFun (W8_of m ρ c main_v8 (by decide)) (ix2 b n)).trans (W7_v8 m ρ c b n)

theorem W8_values (c : Dev nD) : W8 m ρ c (Proc.devRef .tc main_values) = W3 m ρ c (Proc.devRef .tc main_values) :=
  (W8_of m ρ c main_values (by decide)).trans <| (W7_of m ρ c main_values (by decide)).trans <| (W6_of m ρ c main_values (by decide)).trans <|
    (W5_of m ρ c main_values (by decide)).trans (W4_of m ρ c main_values (by decide))

theorem W9_sc (c : Dev nD) (b : Fin 16) (n : Fin 256) :
    (W9 m ρ c (Proc.devRef .tc main_v12) : FVec Ideal S16x1x256 .f32) (ix3 b 0 n) = Cert.Spec.candSc (flat m c) b n :=
  (v12_at (W8 m ρ c) b n).trans <| (congrFun (W8_values m ρ c) (ix2 b n)).trans (W3_values m ρ c b n)

theorem cbox_eq (c : Dev nD) : cbox (V9 m ρ) c = Cert.Spec.candBox (flat m c) := by
  funext b j k; exact W9_boxes m ρ c b j k

theorem ccls_eq (c : Dev nD) : ccls (V9 m ρ) c = Cert.Spec.candCls (flat m c) := by
  funext b j; exact W9_cls m ρ c b j

theorem csc_eq (c : Dev nD) : csc (V9 m ρ) c = Cert.Spec.candSc (flat m c) := by
  funext b j; exact W9_sc m ρ c b j

theorem W10_masked (c : Dev nD) (b : Fin 16) (j : Fin 256) :
    (W10 m ρ c (Proc.devRef .tc main_v13_1) : FVec Ideal S16x1x256 .f32) (ix3 b 0 j) = Cert.Spec.masked (flat m c) (ix2 b j) := by
  have e := (W10_arr m ρ c 4).trans (masked_final (V9 m ρ) c)
  refine (congrFun e (ix3 b 0 j)).trans ?_
  show maskedAt (V9 m ρ) c b 0 j = _
  unfold maskedAt kept
  rw [cbox_eq, ccls_eq, csc_eq]
  rfl

theorem W10_rows (c : Dev nD) (b : Fin 16) (j : Fin 256) (q : Fin 6) :
    (W10 m ρ c (Proc.devRef .tc main_v13_0) : FVec Ideal S16x256x6 .f32) (ix3 b j q)
      = Cert.Spec.rowOf (Cert.Spec.candBox (flat m c) b j) (Cert.Spec.candCls (flat m c) b j) (Cert.Spec.candSc (flat m c) b j) q
        * Cert.Spec.bit (Cert.Spec.alive (flat m c) b j) := by
  have e := (W10_arr m ρ c 3).trans (rows_final (V9 m ρ) c)
  refine (congrFun e (ix3 b j q)).trans ?_
  show rowsAt (V9 m ρ) c b j q = _
  unfold rowsAt kept
  rw [cbox_eq, ccls_eq, csc_eq]
  rfl

theorem W11_v15 (c : Dev nD) (b : Fin 16) (r : Fin 100) :
    (W11 m ρ c (Proc.devRef .tc main_v15) : IVec S16x100x1 32) (ix3 b r 0) = BitVec.ofNat 32 (Cert.Spec.shown (flat m c) b r).val :=
  (v15_at (W10 m ρ c) _ (W10_masked m ρ c) b r).trans (HostOps.topK_idx _ _ _ b r)

/-- The kernel's result on a device. -/
theorem result_eq (c : Dev nD) :
    W12 m ρ c (Proc.devRef .tc main_v16) = (fun j => Cert.Spec.out (flat m c) (j 0) (j 1) (j 2) : FVec Ideal S16x100x6 .f32) := by
  funext j
  obtain ⟨b, r, q, rfl⟩ : ∃ (b : Fin 16) (r : Fin 100) (q : Fin 6), j = ix3 b r q := ⟨j 0, j 1, j 2, eq_ix3 j⟩
  refine (v16_at (W11 m ρ c) b r q _ (W11_v15 m ρ c b r)).trans ?_
  exact (congrFun (W11_of m ρ c main_v13_0 (by decide)) _).trans (W10_rows m ρ c b _ q)

end Cert.KernelIdeal.Value

end
-- ==== Proof.RefRows.lean ====
/- The reference's rows: the stretch of its host operations up to the flat list of candidate rows, in four stages. -/
module

public import proofs.«01_k».proof.Proof.Gen.ReferenceIdeal.Run
public import proofs.«01_k».proof.Proof.Select
public import Idealize.ShloMosaic.Lib.StableHlo.ReadAt
public import Idealize.ShloMosaic.Lib.Pointwise

@[expose] public section

set_option maxRecDepth 16384

noncomputable section

namespace Cert.ReferenceIdeal.Value

open Idealize.ShloMosaic Idealize.ShloMosaic.TcCoe Idealize.ShloMosaic.StableHlo
open Cert.ReferenceIdeal.Gen

variable (X : Valuation τ sig (Elt Ideal))

/-- The flat predictions, the grid and the strides. -/
abbrev gridOps : List (HloOp τ sig (Elt Ideal)) := hostOps0.take 58
/-- The decoded numbers of every anchor and class. -/
abbrev decodeOps : List (HloOp τ sig (Elt Ideal)) := (hostOps0.drop 58).take 44
/-- The rows. -/
abbrev rowOps : List (HloOp τ sig (Elt Ideal)) := (hostOps0.drop 102).take 32
/-- The first selection. -/
abbrev candOps : List (HloOp τ sig (Elt Ideal)) := (hostOps0.drop 134).take 11
/-- The overlaps of the candidates. -/
abbrev iouOps : List (HloOp τ sig (Elt Ideal)) := hostOps0.drop 145

theorem hostOps0_split : (hostOps0 : List (HloOp τ sig (Elt Ideal))) = gridOps ++ (decodeOps ++ (rowOps ++ (candOps ++ iouOps))) := rfl

theorem flat_at (b : Fin 16) (n : Fin 5376) (k : Fin 85) :
    (after gridOps X (Proc.devRef .tc main_v3) : FVec Ideal S16x5376x85 .f32) (ix3 b n k)
      = Cert.Spec.flatten (X (Proc.devRef .tc main_arg1)) (X (Proc.devRef .tc main_arg2)) (X (Proc.devRef .tc main_arg3)) b n k := by
  after_reads_at
  unfold Cert.Spec.flatten
  split_ifs <;> after_reads_at

theorem cst_at (k : Fin 2) :
    (after gridOps X (Proc.devRef .tc main_cst) : FVec Ideal S2 .f32) (ix1 k) = Ideal.ofBits .f32 0x44000000#32 := by
  after_reads_at

/-- Dividing by the image's size and multiplying it back gives the number itself, at the infinities too. -/
theorem div_mul_size (x : EReal) : Ideal.div x (Ideal.ofBits .f32 0x44000000#32) * Ideal.ofBits .f32 0x44000000#32 = x := by
  have h : Ideal.ofBits .f32 0x44000000#32 = ((512 : ℝ) : EReal) := by
    simp [Ideal.ofBits, Ideal.ieee, -EReal.coe_mul]; norm_num
  have h0 : ((512 : ℝ) : EReal) ≠ 0 := by norm_num
  rw [h, Ideal.div, if_neg h0, mul_assoc, ← EReal.coe_inv, ← EReal.coe_mul]
  norm_num

theorem size_over_64 : Ideal.div (Ideal.ofBits .f32 0x44000000#32) (Ideal.ofBits .f32 0x42800000#32) = Ideal.ofBits .f32 0x41000000#32 := by
  simp [Ideal.div, Ideal.ofBits, Ideal.ieee, -EReal.coe_mul]
  norm_num [← EReal.coe_inv, ← EReal.coe_mul]

theorem size_over_32 : Ideal.div (Ideal.ofBits .f32 0x44000000#32) (Ideal.ofBits .f32 0x42000000#32) = Ideal.ofBits .f32 0x41800000#32 := by
  simp [Ideal.div, Ideal.ofBits, Ideal.ieee, -EReal.coe_mul]
  norm_num [← EReal.coe_inv, ← EReal.coe_mul]

theorem size_over_16 : Ideal.div (Ideal.ofBits .f32 0x44000000#32) (Ideal.ofBits .f32 0x41800000#32) = Ideal.ofBits .f32 0x42000000#32 := by
  simp [Ideal.div, Ideal.ofBits, Ideal.ieee, -EReal.coe_mul]
  norm_num [← EReal.coe_inv, ← EReal.coe_mul]

theorem one_bits : Ideal.ofBits .f32 0x3F800000#32 = 1 := by
  simp [Ideal.ofBits, Ideal.ieee, -EReal.coe_mul]; norm_num

theorem grid_at (n : Fin 5376) (k : Fin 2) :
    (after gridOps X (Proc.devRef .tc main_v46) : FVec Ideal S1x5376x2 .f32) (ix3 0 n k)
      = if k.val = 0 then Cert.Spec.nf (Cert.Spec.gx n) else Cert.Spec.nf (Cert.Spec.gy n) := by
  obtain ⟨k, hk⟩ := k
  unfold Cert.Spec.gx Cert.Spec.gy
  interval_cases k
  all_goals
    after_reads_at
    by_cases h : n.val < 4096
    · rw [dif_pos h, if_pos h]
      after_reads_at
      after_reads_at
      rfl
    · by_cases h' : n.val - 4096 < 1024
      · rw [dif_neg h, dif_pos h', if_neg h, if_pos (show n.val < 5120 by omega)]
        obtain ⟨r, hr⟩ : ∃ r : Fin 1024, r.val = n.val - 4096 := ⟨⟨_, h'⟩, rfl⟩
        simp only [← hr]
        after_reads_at
        after_reads_at
        rfl
      · rw [dif_neg h, dif_neg h', if_neg h, if_neg (show ¬ n.val < 5120 by omega), show n.val - 5120 = n.val - 4096 - 1024 by omega]
        obtain ⟨r, hr⟩ : ∃ r : Fin 256, r.val = n.val - 4096 - 1024 := ⟨⟨n.val - 4096 - 1024, by omega⟩, rfl⟩
        simp only [← hr]
        after_reads_at
        after_reads_at
        rfl

theorem stride_at (n : Fin 5376) :
    (after gridOps X (Proc.devRef .tc main_v47) : FVec Ideal S1x5376x1 .f32) (ix3 0 n 0) = Cert.Spec.stride n := by
  unfold Cert.Spec.stride
  after_reads_at
  by_cases h : n.val < 4096
  · rw [dif_pos h, if_pos h]
    after_reads_at
    exact size_over_64
  · by_cases h' : n.val - 4096 < 1024
    · rw [dif_neg h, dif_pos h', if_neg h, if_pos (show n.val < 5120 by omega)]
      after_reads_at
      exact size_over_32
    · rw [dif_neg h, dif_neg h', if_neg h, if_neg (show ¬ n.val < 5120 by omega)]
      after_reads_at
      exact size_over_16

/-- An anchor's row for a class before the scaling back: relative box, class, score. -/
def rawRow (f : Cert.Spec.Flat) (b : Fin 16) (n : Fin 5376) (k : Fin 80) (q : Fin 6) : EReal :=
  if q.val = 0 then Ideal.div ((f b n 0 + Cert.Spec.nf (Cert.Spec.gx n)) * Cert.Spec.stride n) (Ideal.ofBits .f32 0x44000000#32)
  else if q.val = 1 then Ideal.div ((f b n 1 + Cert.Spec.nf (Cert.Spec.gy n)) * Cert.Spec.stride n) (Ideal.ofBits .f32 0x44000000#32)
  else if q.val = 2 then Ideal.div (Ideal.exp (f b n 2) * Cert.Spec.stride n) (Ideal.ofBits .f32 0x44000000#32)
  else if q.val = 3 then Ideal.div (Ideal.exp (f b n 3) * Cert.Spec.stride n) (Ideal.ofBits .f32 0x44000000#32)
  else if q.val = 4 then Cert.Spec.nf k
  else Cert.Spec.score f b n k

theorem v87_at (f : Cert.Spec.Flat) (b : Fin 16) (n : Fin 5376) (k : Fin 80) (q : Fin 6)
    (hf : ∀ k, (X (Proc.devRef .tc main_v3) : FVec Ideal S16x5376x85 .f32) (ix3 b n k) = f b n k)
    (hc : ∀ k, (X (Proc.devRef .tc main_cst) : FVec Ideal S2 .f32) (ix1 k) = Ideal.ofBits .f32 0x44000000#32)
    (hg : ∀ k : Fin 2, (X (Proc.devRef .tc main_v46) : FVec Ideal S1x5376x2 .f32) (ix3 0 n k)
      = if k.val = 0 then Cert.Spec.nf (Cert.Spec.gx n) else Cert.Spec.nf (Cert.Spec.gy n))
    (hs : (X (Proc.devRef .tc main_v47) : FVec Ideal S1x5376x1 .f32) (ix3 0 n 0) = Cert.Spec.stride n) :
    (after decodeOps X (Proc.devRef .tc main_v87) : FVec Ideal S16x5376x80x6 .f32) (ix4 b n k q) = rawRow f b n k q := by
  obtain ⟨q, hq⟩ := q
  unfold rawRow
  interval_cases q
  all_goals after_reads_at
  all_goals after_reads_at
  all_goals try simp only [hf, hc, hg, hs, one_bits]
  all_goals rfl

theorem v113_at (f : Cert.Spec.Flat) (b : Fin 16) (p : Fin 430080) (q : Fin 6)
    (h : ∀ n k q, (X (Proc.devRef .tc main_v87) : FVec Ideal S16x5376x80x6 .f32) (ix4 b n k q) = rawRow f b n k q) :
    (after rowOps X (Proc.devRef .tc main_v113) : FVec Ideal S16x430080x6 .f32) (ix3 b p q)
      = Cert.Spec.rowOf (Cert.Spec.box f b (Cert.Spec.anc p)) (Cert.Spec.nf (Cert.Spec.cla p)) (Cert.Spec.score f b (Cert.Spec.anc p) (Cert.Spec.cla p)) q := by
  obtain ⟨q, hq⟩ := q
  interval_cases q
  all_goals after_reads_at
  all_goals try after_reads_at
  all_goals rw [h]
  all_goals try rw [h]
  · exact div_mul_size _
  · exact div_mul_size _
  · exact congrArg₂ (· + ·) (div_mul_size _) (div_mul_size _)
  · exact congrArg₂ (· + ·) (div_mul_size _) (div_mul_size _)
  · rfl
  · rfl

theorem v115_at (b : Fin 16) (p : Fin 430080)  :
    (after rowOps X (Proc.devRef .tc main_v115) : FVec Ideal S16x430080 .f32) (ix2 b p)
      = (X (Proc.devRef .tc main_v87) : FVec Ideal S16x5376x80x6 .f32) (ix4 b (Cert.Spec.anc p) (Cert.Spec.cla p) 5) := by
  after_reads_at
  after_reads_at
  rfl

end Cert.ReferenceIdeal.Value

end
-- ==== Proof.RefCand.lean ====
/- The reference's candidates, their overlaps, and what its loop finds on entry. -/
module

public import proofs.«01_k».proof.Proof.RefRows
public import Idealize.ShloMosaic.Lib.DynamicIndex

@[expose] public section

set_option maxRecDepth 16384

noncomputable section

namespace Cert.ReferenceIdeal.Value

open Idealize.ShloMosaic Idealize.ShloMosaic.TcCoe Idealize.ShloMosaic.StableHlo
open Cert.ReferenceIdeal.Gen

variable (X : Valuation τ sig (Elt Ideal))

/-- The rows of the first selection. -/
theorem v122_at (S : FVec Ideal S16x430080 .f32)
    (hS : ∀ (b : Fin 16) (p : Fin 430080), (X (Proc.devRef .tc main_v115) : FVec Ideal S16x430080 .f32) (ix2 b p) = S (ix2 b p))
    (b : Fin 16) (j : Fin 256) (q : Fin 6) :
    (after candOps X (Proc.devRef .tc main_v122) : FVec Ideal S16x256x6 .f32) (ix3 b j q)
      = (X (Proc.devRef .tc main_v113) : FVec Ideal S16x430080x6 .f32) (ix3 b (HostOps.pick Cert.Spec.gtTest S Cert.Spec.fits_scores b j) q) := by
  have e : (X (Proc.devRef .tc main_v115) : FVec Ideal S16x430080 .f32) = S := by
    funext i
    rw [eq_ix2 i]
    exact hS _ _
  after_reads_at
  rw [e]
  refine HostOps.gather_rows gather_S16x430080x6_S16x256x1_S16x256x6_2_1_0_0_1_2_116.wf _ _ b j q _ ?_
  pointwise
  have hk : (Host.topK S16x256 1 (FloatOps.cmpfTotal (F := Ideal) (φ := .f32) CmpDirection.gt) S sliceFits_S16x430080_S16x256).2 (ix2 b j)
      = BitVec.ofNat 32 (HostOps.pick Cert.Spec.gtTest S Cert.Spec.fits_scores b j).val := HostOps.topK_idx _ _ _ b j
  rw [hk, HostOps.wrap_nat (by omega), HostOps.toInt_nat (by omega), Int.toNat_natCast]

variable (x : Fin 16 → Fin 256 → Fin 4 → EReal) (cl sc : Fin 16 → Fin 256 → EReal)

theorem v174_at (h : ∀ (b : Fin 16) (j : Fin 256) (q : Fin 6), (X (Proc.devRef .tc main_v122) : FVec Ideal S16x256x6 .f32) (ix3 b j q) = Cert.Spec.rowOf (x b j) (cl b j) (sc b j) q)
    (b : Fin 16) (i j : Fin 256) :
    (after iouOps X (Proc.devRef .tc main_v174) : FVec Ideal S16x256x256 .f32) (ix3 b i j) = Cert.Spec.iou (x b i) (x b j) := by
  after_reads_at
  simp only [h]
  rfl

theorem v181_at (h : ∀ (b : Fin 16) (j : Fin 256) (q : Fin 6), (X (Proc.devRef .tc main_v122) : FVec Ideal S16x256x6 .f32) (ix3 b j q) = Cert.Spec.rowOf (x b j) (cl b j) (sc b j) q)
    (b : Fin 16) (i j : Fin 256) :
    (after iouOps X (Proc.devRef .tc main_v181) : IVec S16x256x256 1) (ix3 b i j) = BitVec.ofBool (decide (cl b i = cl b j)) := by
  after_reads_at
  simp only [h]
  rfl

theorem v182_at (i j : Fin 256) :
    (after iouOps X (Proc.devRef .tc main_v182) : IVec S256x256 1) (ix2 i j) = 1#1 := by
  after_reads_at

theorem v183_at (h : (X (Proc.devRef .tc main_v182) : IVec S256x256 1) = fun _ => 1#1) (i j : Fin 256) :
    (after hostOps0_1 X (Proc.devRef .tc main_v183) : IVec S256x256 1) (ix2 i j) = BitVec.ofBool (decide (i < j)) := by
  after_reads_at
  have e : IntOp.addi (BitVec.ofNat 32 i.val) 0#32 = BitVec.ofNat 32 i.val := BitVec.add_zero _
  rw [h, e, HostOps.sge_nat (by omega) (by omega)]
  by_cases hij : i < j
  · rw [decide_eq_false (by omega), decide_eq_true hij]; rfl
  · rw [decide_eq_true (show j.val ≤ i.val by omega), decide_eq_false hij]; rfl

theorem v191_0_at
    (h₁ : ∀ (b : Fin 16) (i j : Fin 256), (X (Proc.devRef .tc main_v174) : FVec Ideal S16x256x256 .f32) (ix3 b i j) = Cert.Spec.iou (x b i) (x b j))
    (h₂ : ∀ (b : Fin 16) (i j : Fin 256), (X (Proc.devRef .tc main_v181) : IVec S16x256x256 1) (ix3 b i j) = BitVec.ofBool (decide (cl b i = cl b j)))
    (h₃ : ∀ i j : Fin 256, (X (Proc.devRef .tc main_v183) : IVec S256x256 1) (ix2 i j) = BitVec.ofBool (decide (i < j)))
    (b : Fin 16) (i j : Fin 256) :
    (after hostOps0_2 X (Proc.devRef .tc main_v191_0) : IVec S16x256x256 1) (ix3 b i j) = BitVec.ofBool (Cert.Spec.supp (x b) (cl b) i j) := by
  after_reads_at
  rw [id]
  pointwise
  rw [h₁, h₂, h₃]
  show IntOp.andi (IntOp.andi _ _) (BitVec.ofBool (decide (Ideal.ofBits .f32 0x3F000000#32 < Cert.Spec.iou (x b i) (x b j)))) = _
  unfold Cert.Spec.supp
  generalize Cert.Spec.iou (x b i) (x b j) = u
  by_cases a₁ : cl b i = cl b j <;> by_cases a₂ : i < j <;> by_cases a₃ : Ideal.ofBits .f32 0x3F000000#32 < u <;>
    simp [a₁, a₂, a₃, IntOp.andi]

theorem v191_2_eq : (after hostOps0_2 X (Proc.devRef .tc main_v191_2) : IVec S_ 32) = fun _ => BitVec.ofNat 32 0 := by
  after_reads_simp
  rfl

theorem v191_3_eq : (after hostOps0_2 X (Proc.devRef .tc main_v191_3) : IVec S16x256 1) = fun _ => 1#1 := by
  after_reads_simp
  rfl

/-- The row number a wrapped word names. -/
theorem wrapped_nat {n : ℕ} (h : n < 2147483648) {w d : BitVec 32} (hw : w = BitVec.ofNat 32 n) :
    (Scalar.select (IntOp.cmpi CmpIPredicate.slt w 0#32) d w).toInt.toNat = n := by
  rw [hw, HostOps.wrap_nat h, HostOps.toInt_nat h, Int.toNat_natCast]

theorem bit_word (k : Bool) : FloatOps.uitofp (F := Ideal) .f32 (BitVec.ofBool k) = Cert.Spec.bit k := by
  cases k <;> simp [FloatOps.uitofp, Cert.Spec.bit]

/-- One trip of the loop: candidate `k` has its say. -/
theorem step_at (V : Valuation τ sig (Elt Ideal)) (k : ℕ) (hk : k < 256) (K : Fin 16 → Fin 256 → Bool) (S : Fin 16 → Fin 256 → Fin 256 → Bool)
    (h₀ : ∀ (b : Fin 16) (i j : Fin 256), (V (Proc.devRef .tc main_v191_0) : IVec S16x256x256 1) (ix3 b i j) = BitVec.ofBool (S b i j))
    (h₂ : V (Proc.devRef .tc main_v191_2) = (fun _ => BitVec.ofNat 32 k : IVec S_ 32))
    (h₃ : ∀ (b : Fin 16) (j : Fin 256), (V (Proc.devRef .tc main_v191_3) : IVec S16x256 1) (ix2 b j) = BitVec.ofBool (K b j))
    (b : Fin 16) (j : Fin 256) :
    (step_main_v191_3 V : IVec S16x256 1) (ix2 b j) = BitVec.ofBool (K b j && !(K b ⟨k, hk⟩ && S b ⟨k, hk⟩ j)) := by
  unfold step_main_v191_3
  rw [h₂]
  have o₁ : S16x256.Slices ![0, k] S16x1 := ⟨rfl, fun a => by
    match a with
    | ⟨0, _⟩ => exact Nat.le_refl _
    | ⟨1, _⟩ => exact hk⟩
  have o₂ : S16x256x256.Slices ![0, k, 0] S16x1x256 := ⟨rfl, fun a => by
    match a with
    | ⟨0, _⟩ => exact Nat.le_refl _
    | ⟨1, _⟩ => exact hk
    | ⟨2, _⟩ => exact Nat.le_refl _⟩
  rw [Host.dynamicSlice_eq_extractStridedSlice S16x1 _ _ ![0, k] _ o₁ (fun a => by
      match a with
      | ⟨0, _⟩ => rfl
      | ⟨1, _⟩ => exact toInt_wrap_ofNat k (by omega)),
    Host.dynamicSlice_eq_extractStridedSlice S16x1x256 _ _ ![0, k, 0] _ o₂ (fun a => by
      match a with
      | ⟨0, _⟩ => rfl
      | ⟨1, _⟩ => exact toInt_wrap_ofNat k (by omega)
      | ⟨2, _⟩ => rfl)]
  rw [id]
  pointwise
  rw [h₀, h₃, h₃]
  cases K b j <;> cases K b ⟨k, hk⟩ <;> cases S b ⟨k, hk⟩ j <;> rfl

/-- What follows the loop: the second selection and its rows. -/
theorem v213_at (keep : Fin 16 → Fin 256 → Bool)
    (h : ∀ (b : Fin 16) (j : Fin 256) (q : Fin 6), (X (Proc.devRef .tc main_v122) : FVec Ideal S16x256x6 .f32) (ix3 b j q) = Cert.Spec.rowOf (x b j) (cl b j) (sc b j) q)
    (h₃ : ∀ (b : Fin 16) (j : Fin 256), (X (Proc.devRef .tc main_v191_3) : IVec S16x256 1) (ix2 b j) = BitVec.ofBool (keep b j))
    (S : FVec Ideal S16x256 .f32) (hS : ∀ (b : Fin 16) (j : Fin 256), S (ix2 b j) = sc b j * Cert.Spec.bit (keep b j))
    (b : Fin 16) (r : Fin 100) (q : Fin 6) :
    (after hostOps0_3 X (Proc.devRef .tc main_v213) : FVec Ideal S16x100x6 .f32) (ix3 b r q)
      = Cert.Spec.rowOf (x b (HostOps.pick Cert.Spec.gtTest S Cert.Spec.fits_masked b r)) (cl b (HostOps.pick Cert.Spec.gtTest S Cert.Spec.fits_masked b r))
          (sc b (HostOps.pick Cert.Spec.gtTest S Cert.Spec.fits_masked b r)) q
        * Cert.Spec.bit (keep b (HostOps.pick Cert.Spec.gtTest S Cert.Spec.fits_masked b r)) := by
  after_reads_at
  have e : (mulf (fun i => (X (Proc.devRef .tc main_v122) : FVec Ideal S16x256x6 .f32) (ix3 (i 0) (i 1) 5))
      (uitofp FTy.f32 (X (Proc.devRef .tc main_v191_3))) : FVec Ideal S16x256 .f32) = S := by
    funext i
    obtain ⟨b, j, rfl⟩ : ∃ (b : Fin 16) (j : Fin 256), i = ix2 b j := ⟨i 0, i 1, eq_ix2 i⟩
    pointwise
    rw [h, h₃, bit_word, hS]
    rfl
  have hk : (Host.topK S16x100 1 (FloatOps.cmpfTotal (F := Ideal) (φ := .f32) CmpDirection.gt) S sliceFits_S16x256_S16x100).2 (ix2 b r)
      = BitVec.ofNat 32 (HostOps.pick Cert.Spec.gtTest S Cert.Spec.fits_masked b r).val := HostOps.topK_idx _ _ _ b r
  have hk' := (congrArg (fun z : FVec Ideal S16x256 .f32 => (Host.topK S16x100 1 (FloatOps.cmpfTotal (F := Ideal) (φ := .f32) CmpDirection.gt) z sliceFits_S16x256_S16x100).2 (ix2 b r)) e).trans hk
  clear hk
  generalize HostOps.pick Cert.Spec.gtTest S Cert.Spec.fits_masked b r = p at hk'
  refine congrArg₂ (· * ·) ((HostOps.gather_rows gather_S16x256x6_S16x100x1_S16x100x6_2_1_0_0_1_2_116.wf _ _ b r q p ?_).trans (h b p q)) ?_
  · pointwise
    exact wrapped_nat (by omega) hk'
  · refine (congrArg (FloatOps.uitofp (F := Ideal) .f32) ((HostOps.gather_elts gather_S16x256_S16x100x1_S16x100_n_1_0_0_1_2_11.wf _ _ b r p ?_).trans (h₃ b p))).trans (bit_word _)
    pointwise
    exact wrapped_nat (by omega) hk'

end Cert.ReferenceIdeal.Value

end
-- ==== Proof.RefRun.lean ====
/- The reference's run: its arguments survive it, and its result is what the operations after the loop leave. -/
module

public import proofs.«01_k».proof.Proof.Gen.ReferenceIdeal.Run
public import Idealize.ShloMosaic.Lib.Quiescent

@[expose] public section

set_option maxRecDepth 16384

noncomputable section

namespace Cert.ReferenceIdeal.Value

open Idealize.ShloMosaic Idealize.ShloMosaic.TcCoe Idealize.ShloMosaic.StableHlo
open Cert.ReferenceIdeal.Gen

variable {F : FTy → Type} [FloatOps F]

/-- A buffer that no trip writes keeps its contents through the loop. -/
theorem atTrip_keep (W : Dev nD → Valuation τ sig (Elt F)) (c : Dev nD) (r : Ref sig .tc)
    (h₁ : r ∉ condOps_W) (h₂ : r ∉ while0Ops0_W) :
    ∀ k, atTrip condOps bodyI W k c (Proc.devRef .tc r) = W c (Proc.devRef .tc r)
  | 0 => rfl
  | k + 1 => by
    rw [atTrip_succ, afterL_cons, afterL_nil, after_of_writes_sub while0Ops0 _ while0Ops0_writes h₂,
      after_of_writes_sub condOps _ condOps_writes h₁]
    exact atTrip_keep W c r h₁ h₂ k

variable (m : (ℓ : Loc nD τ sig) → Buf (Elt F) ℓ) (ρ : Dev nD → PrngReg)

/-- The buffers the operations after the loop write. -/
abbrev hostOps0_3_W : List (Ref sig .tc) :=
  [main_v192, main_v193, main_v194, main_v195, main_values_28, main_indices_29, main_c_30, main_v196, main_v197, main_c_31, main_v198,
    main_v199, main_v200, main_v201, main_v202, main_c_32, main_v203, main_v204, main_c_33, main_v205, main_v206, main_v207, main_v208,
    main_v209, main_v210, main_v211, main_v212, main_v213]

theorem hostOps0_3_writes : (hostOps0_3 : List (HloOp τ sig (Elt F))).Forall fun op => op.writes ⊆ (hostOps0_3_W.map (Proc.devRef (τ := τ) .tc)).toFinset :=
  StableHlo.forall_writes_sub_of_map rfl

/-- Before the loop nothing writes an argument; nor does the loop, nor what follows it. -/
theorem final_arg (c : Dev nD) (r : Ref sig .tc) (h : r ∈ [main_arg0, main_arg1, main_arg2, main_arg3]) :
    finalContents condOps preI bodyI postI 256 m c (Proc.devRef .tc r) = m ((c.tc : Thread nD τ).loc r) := by
  have d : ∀ r ∈ [main_arg0, main_arg1, main_arg2, main_arg3],
      r ∉ hostOps0_W ∧ r ∉ hostOps0_1_W ∧ r ∉ hostOps0_2_W ∧ r ∉ condOps_W ∧ r ∉ while0Ops0_W ∧ r ∉ hostOps0_3_W := by decide +kernel
  obtain ⟨h0, h1, h2, h3, h4, h5⟩ := d r h
  show after hostOps0_3 _ _ = _
  rw [after_of_writes_sub hostOps0_3 _ hostOps0_3_writes h5, after_of_writes_sub condOps _ condOps_writes h3,
    atTrip_keep _ c r h3 h4]
  show after hostOps0_2 (after hostOps0_1 (after hostOps0 _)) _ = _
  rw [after_of_writes_sub hostOps0_2 _ hostOps0_2_writes h2, after_of_writes_sub hostOps0_1 _ hostOps0_1_writes h1,
    after_of_writes_sub hostOps0 _ hostOps0_writes h0]

/-- Every execution ends with the result at the fold's last contents, the arguments unchanged. -/
theorem result_run : θ_run (defs (F := F)) (onTc (τ := τ) (main (F := F))) ⟨m, fun _ => 0, ρ⟩ (fun r => ∀ c : Dev nD,
      r.2.mem ((c.tc : Thread nD τ).loc main_v213) = finalContents condOps preI bodyI postI 256 m c (Proc.devRef .tc main_v213)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨h c main_v213 (by decide),
    (h c main_arg0 (by decide)).trans (final_arg m c _ (by decide)),
    (h c main_arg1 (by decide)).trans (final_arg m c _ (by decide)),
    (h c main_arg2 (by decide)).trans (final_arg m c _ (by decide)),
    (h c main_arg3 (by decide)).trans (final_arg m c _ (by decide))⟩) (run_fold m ρ)

/-- The reference's frame: the arguments unchanged, and no semaphore to speak of. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (result_run m ρ)

end Cert.ReferenceIdeal.Value
-- ==== Proof.RefValue.lean ====
/- The reference's result at the reals: its stages, its loop and what follows it put together. -/
module

public import proofs.«01_k».proof.Proof.RefCand
public import proofs.«01_k».proof.Proof.RefRun

@[expose] public section

set_option maxRecDepth 16384

noncomputable section

namespace Cert.ReferenceIdeal.Value

open Idealize.ShloMosaic Idealize.ShloMosaic.TcCoe Idealize.ShloMosaic.StableHlo
open Cert.ReferenceIdeal.Gen

variable (X : Valuation τ sig (Elt Ideal))

/-- The flat predictions of the contents a launch starts from. -/
def flatX : Cert.Spec.Flat :=
  Cert.Spec.flatten (X (Proc.devRef .tc main_arg1)) (X (Proc.devRef .tc main_arg2)) (X (Proc.devRef .tc main_arg3))

/-- The contents after each stage. -/
def decoded : Valuation τ sig (Elt Ideal) := after decodeOps (after gridOps X)
def rowed : Valuation τ sig (Elt Ideal) := after rowOps (decoded X)
def canded : Valuation τ sig (Elt Ideal) := after candOps (rowed X)
def ioued : Valuation τ sig (Elt Ideal) := after iouOps (canded X)

theorem after_hostOps0 : after hostOps0 X = ioued X := by
  rw [hostOps0_split, after_append, after_append, after_append, after_append]
  rfl

theorem decoded_v87 (b : Fin 16) (n : Fin 5376) (k : Fin 80) (q : Fin 6) :
    (decoded X (Proc.devRef .tc main_v87) : FVec Ideal S16x5376x80x6 .f32) (ix4 b n k q) = rawRow (flatX X) b n k q :=
  v87_at _ (flatX X) b n k q (fun k => flat_at X b n k) (fun k => cst_at X k) (fun k => grid_at X n k) (stride_at X n)

theorem rowed_v113 (b : Fin 16) (p : Fin 430080) (q : Fin 6) :
    (rowed X (Proc.devRef .tc main_v113) : FVec Ideal S16x430080x6 .f32) (ix3 b p q)
      = Cert.Spec.rowOf (Cert.Spec.box (flatX X) b (Cert.Spec.anc p)) (Cert.Spec.nf (Cert.Spec.cla p))
          (Cert.Spec.score (flatX X) b (Cert.Spec.anc p) (Cert.Spec.cla p)) q :=
  v113_at _ (flatX X) b p q (fun n k q => decoded_v87 X b n k q)

theorem rowed_v115 (b : Fin 16) (p : Fin 430080) :
    (rowed X (Proc.devRef .tc main_v115) : FVec Ideal S16x430080 .f32) (ix2 b p) = Cert.Spec.scores (flatX X) (ix2 b p) :=
  (v115_at _ b p).trans (decoded_v87 X b _ _ 5)

theorem canded_v122 (b : Fin 16) (j : Fin 256) (q : Fin 6) :
    (canded X (Proc.devRef .tc main_v122) : FVec Ideal S16x256x6 .f32) (ix3 b j q)
      = Cert.Spec.rowOf (Cert.Spec.candBox (flatX X) b j) (Cert.Spec.candCls (flatX X) b j) (Cert.Spec.candSc (flatX X) b j) q :=
  (v122_at _ _ (rowed_v115 X) b j q).trans (rowed_v113 X b _ q)

theorem iou_keeps : after iouOps X (Proc.devRef .tc main_v122) = X (Proc.devRef .tc main_v122) := by
  after_reads_simp

theorem ioued_v122 (b : Fin 16) (j : Fin 256) (q : Fin 6) :
    (ioued X (Proc.devRef .tc main_v122) : FVec Ideal S16x256x6 .f32) (ix3 b j q)
      = Cert.Spec.rowOf (Cert.Spec.candBox (flatX X) b j) (Cert.Spec.candCls (flatX X) b j) (Cert.Spec.candSc (flatX X) b j) q :=
  (congrFun (iou_keeps (canded X)) (ix3 b j q)).trans (canded_v122 X b j q)

/-- The contents at the loop's entry. -/
def entered : Valuation τ sig (Elt Ideal) := after hostOps0_2 (after hostOps0_1 (ioued X))

theorem entered_v122 (b : Fin 16) (j : Fin 256) (q : Fin 6) :
    (entered X (Proc.devRef .tc main_v122) : FVec Ideal S16x256x6 .f32) (ix3 b j q)
      = Cert.Spec.rowOf (Cert.Spec.candBox (flatX X) b j) (Cert.Spec.candCls (flatX X) b j) (Cert.Spec.candSc (flatX X) b j) q := by
  unfold entered
  rw [after_of_writes_sub hostOps0_2 _ hostOps0_2_writes (by decide), after_of_writes_sub hostOps0_1 _ hostOps0_1_writes (by decide)]
  exact ioued_v122 X b j q

theorem entered_v191_0 (b : Fin 16) (i j : Fin 256) :
    (entered X (Proc.devRef .tc main_v191_0) : IVec S16x256x256 1) (ix3 b i j)
      = BitVec.ofBool (Cert.Spec.supp (Cert.Spec.candBox (flatX X) b) (Cert.Spec.candCls (flatX X) b) i j) := by
  refine v191_0_at (after hostOps0_1 (ioued X)) (Cert.Spec.candBox (flatX X)) (Cert.Spec.candCls (flatX X)) (fun b i j => ?_) (fun b i j => ?_) (fun i j => ?_) b i j
  · rw [after_of_writes_sub hostOps0_1 _ hostOps0_1_writes (by decide)]
    exact v174_at (canded X) _ _ _ (canded_v122 X) b i j
  · rw [after_of_writes_sub hostOps0_1 _ hostOps0_1_writes (by decide)]
    exact v181_at (canded X) _ _ _ (canded_v122 X) b i j
  · refine v183_at (ioued X) (funext fun i => ?_) i j
    rw [eq_ix2 i]
    exact v182_at (canded X) _ _

/-- The carried buffers before the `k`-th trip. -/
theorem iter_at (k : ℕ) (hk : k ≤ 256) :
    ((STEP^[k] (entered X)) (Proc.devRef .tc main_v191_0) = entered X (Proc.devRef .tc main_v191_0))
    ∧ ((STEP^[k] (entered X)) (Proc.devRef .tc main_v191_2) = (fun _ => BitVec.ofNat 32 k : IVec S_ 32))
    ∧ ∀ (b : Fin 16) (j : Fin 256), ((STEP^[k] (entered X)) (Proc.devRef .tc main_v191_3) : IVec S16x256 1) (ix2 b j)
        = BitVec.ofBool (Cert.Spec.keep (Cert.Spec.supp (Cert.Spec.candBox (flatX X) b) (Cert.Spec.candCls (flatX X) b)) k j) := by
  induction k with
  | zero =>
    refine ⟨rfl, v191_2_eq _, fun b j => ?_⟩
    exact congrFun (v191_3_eq (after hostOps0_1 (ioued X))) (ix2 b j)
  | succ k ih =>
    obtain ⟨h₀, h₂, h₃⟩ := ih (by omega)
    rw [Function.iterate_succ_apply']
    refine ⟨(STEP_main_v191_0 _).trans h₀, ?_, fun b j => ?_⟩
    · rw [STEP_main_v191_2]
      unfold step_main_v191_2
      rw [h₂]
      funext i
      exact (BitVec.ofNat_add k 1).symm
    · rw [STEP_main_v191_3]
      refine (step_at (STEP^[k] (entered X)) k (by omega)
        (fun b => Cert.Spec.keep (Cert.Spec.supp (Cert.Spec.candBox (flatX X) b) (Cert.Spec.candCls (flatX X) b)) k)
        (fun b => Cert.Spec.supp (Cert.Spec.candBox (flatX X) b) (Cert.Spec.candCls (flatX X) b))
        (fun b i j => (congrFun h₀ (ix3 b i j)).trans (entered_v191_0 X b i j)) h₂ h₃ b j).trans ?_
      rw [Cert.Spec.keep, dif_pos (show k < 256 by omega)]

variable (m : (ℓ : Loc nD τ sig) → Buf (Elt Ideal) ℓ)

theorem entry_eq (c : Dev nD) : entryContents preI m c = entered (launchContents m c) := by
  show after hostOps0_2 (after hostOps0_1 (after hostOps0 (launchContents m c))) = _
  rw [after_hostOps0]
  rfl

/-- The flat predictions of the arguments on a device. -/
def flat (c : Dev nD) : Cert.Spec.Flat :=
  Cert.Spec.flatten (m ((c.tc : Thread nD τ).loc main_arg1)) (m ((c.tc : Thread nD τ).loc main_arg2)) (m ((c.tc : Thread nD τ).loc main_arg3))

/-- The contents after the loop, as the operations that follow it find them. -/
def looped (c : Dev nD) : Valuation τ sig (Elt Ideal) := after condOps (atTrip condOps bodyI (entryContents preI m) 256 c)

theorem looped_v122 (c : Dev nD) (b : Fin 16) (j : Fin 256) (q : Fin 6) :
    (looped m c (Proc.devRef .tc main_v122) : FVec Ideal S16x256x6 .f32) (ix3 b j q)
      = Cert.Spec.rowOf (Cert.Spec.candBox (flat m c) b j) (Cert.Spec.candCls (flat m c) b j) (Cert.Spec.candSc (flat m c) b j) q := by
  unfold looped
  rw [after_of_writes_sub condOps _ condOps_writes (by decide), atTrip_keep _ c main_v122 (by decide) (by decide), entry_eq]
  exact entered_v122 (launchContents m c) b j q

theorem looped_v191_3 (c : Dev nD) (b : Fin 16) (j : Fin 256) :
    (looped m c (Proc.devRef .tc main_v191_3) : IVec S16x256 1) (ix2 b j) = BitVec.ofBool (Cert.Spec.alive (flat m c) b j) := by
  unfold looped
  refine (congrFun ((cond_keeps _ main_v191_3 (by decide)).trans (atK_agree m c 256 main_v191_3 (by decide))) (ix2 b j)).trans ?_
  rw [entry_eq]
  exact (iter_at (launchContents m c) 256 (Nat.le_refl _)).2.2 b j

/-- The reference's result on a device. -/
theorem result_eq (c : Dev nD) :
    finalContents condOps preI bodyI postI 256 m c (Proc.devRef .tc main_v213)
      = (fun j => Cert.Spec.out (flat m c) (j 0) (j 1) (j 2) : FVec Ideal S16x100x6 .f32) := by
  funext j
  obtain ⟨b, r, q, rfl⟩ : ∃ (b : Fin 16) (r : Fin 100) (q : Fin 6), j = ix3 b r q := ⟨j 0, j 1, j 2, eq_ix3 j⟩
  exact v213_at (looped m c) (Cert.Spec.candBox (flat m c)) (Cert.Spec.candCls (flat m c)) (Cert.Spec.candSc (flat m c))
    (Cert.Spec.alive (flat m c)) (looped_v122 m c) (looped_v191_3 m c) (Cert.Spec.masked (flat m c)) (fun _ _ => rfl) b r q

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From the same arguments both programs see the same flat predictions. -/
theorem flat_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h₁ : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h₂ : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h₃ : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.flat m' c = Cert.KernelIdeal.Value.flat m c := by
  unfold Cert.ReferenceIdeal.Value.flat Cert.KernelIdeal.Value.flat
  rw [h₁, h₂, h₃]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Value.frame m g,
  trivial, fun m g m' g' _ hargs =>
    ⟨fun c j => Cert.Spec.out (Cert.KernelIdeal.Value.flat m c) (j 0) (j 1) (j 2),
      (θ_run _ _ _).mono (fun r h c => ⟨(h c).1.trans (Cert.KernelIdeal.Value.result_eq m g c), (h c).2⟩)
        (Cert.KernelIdeal.Gen.result_run m g),
      (θ_run _ _ _).mono (fun r h c => ⟨(h c).1.trans ((Cert.ReferenceIdeal.Value.result_eq m' c).trans
          (by rw [flat_eq m m' c (hargs c).2.1 (hargs c).2.2.1 (hargs c).2.2.2]; rfl)), (h c).2⟩)
        (Cert.ReferenceIdeal.Value.result_run m' g')⟩⟩

end Cert.Proof

end
